-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x2048x1024 : Shape := ⟨3, ![4, 2048, 1024]⟩
abbrev S4x2048x1024x8 : Shape := ⟨4, ![4, 2048, 1024, 8]⟩
abbrev S8x1024 : Shape := ⟨2, ![8, 1024]⟩
abbrev S8 : Shape := ⟨1, ![8]⟩
abbrev S4x1x1024 : Shape := ⟨3, ![4, 1, 1024]⟩
abbrev S4x1024 : Shape := ⟨2, ![4, 1024]⟩
abbrev S4x2048x8x1024 : Shape := ⟨4, ![4, 2048, 8, 1024]⟩
abbrev S1x8 : Shape := ⟨2, ![1, 8]⟩
abbrev S1x1024x1024 : Shape := ⟨3, ![1, 1024, 1024]⟩
abbrev S4x2 : Shape := ⟨2, ![4, 2]⟩
abbrev S3x2x1024x1024 : Shape := ⟨4, ![3, 2, 1024, 1024]⟩
abbrev S3x2 : Shape := ⟨2, ![3, 2]⟩
abbrev S4x8 : Shape := ⟨2, ![4, 8]⟩
abbrev S4x1 : Shape := ⟨2, ![4, 1]⟩
abbrev S1x1x8 : Shape := ⟨3, ![1, 1, 8]⟩
abbrev S1 : Shape := ⟨1, ![1]⟩
abbrev S1x1x1 : Shape := ⟨3, ![1, 1, 1]⟩
abbrev S1x1 : Shape := ⟨2, ![1, 1]⟩
abbrev S_ : Shape := ⟨0, ![]⟩
abbrev S1x1x1024x1024 : Shape := ⟨4, ![1, 1, 1024, 1024]⟩
abbrev S1024x1024 : Shape := ⟨2, ![1024, 1024]⟩
abbrev S1x1024x1x1024 : Shape := ⟨4, ![1, 1024, 1, 1024]⟩

abbrev nBuf : Space → Nat
  | .hbm => 10
  | .vmem => 8
  | .smem => 1
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024x8, .f32⟩
  | .hbm, ⟨3, _⟩ => ⟨S8x1024, .f32⟩
  | .hbm, ⟨4, _⟩ => ⟨S8, .f32⟩
  | .hbm, ⟨5, _⟩ => ⟨S4x1x1024, .f32⟩
  | .hbm, ⟨6, _⟩ => ⟨S4x1024, .f32⟩
  | .hbm, ⟨7, _⟩ => ⟨S4x2048x8x1024, .f32⟩
  | .hbm, ⟨8, _⟩ => ⟨S1x8, .f32⟩
  | .hbm, ⟨9, _⟩ => ⟨S4x2048x1024, .f32⟩
  | .local _ .vmem, ⟨0, _⟩ => ⟨S4x1024, .f32⟩
  | .local _ .vmem, ⟨1, _⟩ => ⟨S8x1024, .f32⟩
  | .local _ .vmem, ⟨2, _⟩ => ⟨S1x8, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S3x2x1024x1024, .f32⟩
  | .local _ .smem, ⟨0, _⟩ => ⟨S4x2, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch1 : Ref sig .tc := ⟨.vmem, 7, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c0_i32_40 : BitVec 32 := 0#32
  let v70 : BitVec 1 := Scalar.cmpi .sgt arg0 c0_i32_40
  let v71 : BitVec 32 := Scalar.extui v70
  let c0_i32_41 : BitVec 32 := 0#32
  let v72 : BitVec 1 := Scalar.cmpi .slt arg0 c0_i32_41
  let v73 : BitVec 32 := Scalar.extui v72
  let v74 : BitVec 32 := Scalar.subi v71 v73
  let c2_i32_39 : BitVec 32 := 2#32
  let c0_i32_42 : BitVec 32 := 0#32
  let v75 : BitVec 1 := Scalar.cmpi .sgt c2_i32_39 c0_i32_42
  let v76 : BitVec 32 := Scalar.extui v75
  let c0_i32_43 : BitVec 32 := 0#32
  let v77 : BitVec 1 := Scalar.cmpi .slt c2_i32_39 c0_i32_43
  let v78 : BitVec 32 := Scalar.extui v77
  let v79 : BitVec 32 := Scalar.subi v76 v78
  let v80 : BitVec 1 := Scalar.cmpi .ne v74 v79
  let v81 : BitVec 32 := Scalar.remsi arg0 c2_i32_39
  let c0_i32_44 : BitVec 32 := 0#32
  let v82 : BitVec 1 := Scalar.cmpi .ne v81 c0_i32_44
  let v83 : BitVec 1 := Scalar.andi v80 v82
  let v69 : BitVec 32 := Scalar.divsi arg0 c2_i32_39
  let c1_i32_45 : BitVec 32 := 1#32
  let v84 : BitVec 32 := Scalar.subi v69 c1_i32_45
  let v85 : BitVec 32 := Scalar.select v83 v84 v69
  let v96 : Index := Scalar.indexCast v85
  let c0_52 : Index := 0#32
  ![v96.toNat, 0]
def k0_off2 (i : grid0.Coords) : Fin 2 → Nat :=
  let arg0 : BitVec 32 := BitVec.ofNat 32 (i 0).val
  let c3_i32 : BitVec 32 := 3#32
  let v3 : BitVec 32 := Scalar.remsi arg0 c3_i32
  let c0_i32_55 : BitVec 32 := 0#32
  ![v3.toNat, 0]
def k0_off3 (i : grid0.Coords) : Fin 4 → Nat :=
  let arg0 : BitVec 32 := BitVec.ofNat 32 (i 0).val
  let c3_i32 : BitVec 32 := 3#32
  let v3 : BitVec 32 := Scalar.remsi arg0 c3_i32
  let c0_i32_54 : BitVec 32 := 0#32
  let c0_i32_56 : BitVec 32 := 0#32
  let c0_i32_57 : BitVec 32 := 0#32
  ![v3.toNat, 0, 0, 0]
def k0_off4 (i : grid0.Coords) (v97 : BitVec 32) : Fin 4 → Nat :=
  let arg0 : BitVec 32 := BitVec.ofNat 32 (i 0).val
  let c0_i32_40 : BitVec 32 := 0#32
  let v70 : BitVec 1 := Scalar.cmpi .sgt arg0 c0_i32_40
  let v71 : BitVec 32 := Scalar.extui v70
  let c0_i32_41 : BitVec 32 := 0#32
  let v72 : BitVec 1 := Scalar.cmpi .slt arg0 c0_i32_41
  let v73 : BitVec 32 := Scalar.extui v72
  let v74 : BitVec 32 := Scalar.subi v71 v73
  let c2_i32_39 : BitVec 32 := 2#32
  let c0_i32_42 : BitVec 32 := 0#32
  let v75 : BitVec 1 := Scalar.cmpi .sgt c2_i32_39 c0_i32_42
  let v76 : BitVec 32 := Scalar.extui v75
  let c0_i32_43 : BitVec 32 := 0#32
  let v77 : BitVec 1 := Scalar.cmpi .slt c2_i32_39 c0_i32_43
  let v78 : BitVec 32 := Scalar.extui v77
  let v79 : BitVec 32 := Scalar.subi v76 v78
  let v80 : BitVec 1 := Scalar.cmpi .ne v74 v79
  let v81 : BitVec 32 := Scalar.remsi arg0 c2_i32_39
  let c0_i32_44 : BitVec 32 := 0#32
  let v82 : BitVec 1 := Scalar.cmpi .ne v81 c0_i32_44
  let v83 : BitVec 1 := Scalar.andi v80 v82
  let v69 : BitVec 32 := Scalar.divsi arg0 c2_i32_39
  let c1_i32_45 : BitVec 32 := 1#32
  let v84 : BitVec 32 := Scalar.subi v69 c1_i32_45
  let v85 : BitVec 32 := Scalar.select v83 v84 v69
  let c2_i32_46 : BitVec 32 := 2#32
  let c0_i32_47 : BitVec 32 := 0#32
  let v86 : BitVec 1 := Scalar.cmpi .eq c2_i32_46 c0_i32_47
  let c1_i32_48 : BitVec 32 := 1#32
  let v87 : BitVec 32 := Scalar.select v86 c1_i32_48 c2_i32_46
  let v88 : BitVec 32 := Scalar.remsi arg0 v87
  let c0_i32_50 : BitVec 32 := 0#32
  let v90 : BitVec 1 := Scalar.cmpi .slt v88 c0_i32_50
  let c0_i32_51 : BitVec 32 := 0#32
  let v91 : BitVec 1 := Scalar.cmpi .slt v87 c0_i32_51
  let v92 : BitVec 1 := Scalar.xori v90 v91
  let c0_i32_49 : BitVec 32 := 0#32
  let v89 : BitVec 1 := Scalar.cmpi .ne v88 c0_i32_49
  let v93 : BitVec 1 := Scalar.andi v92 v89
  let v94 : BitVec 32 := Scalar.addi v88 v87
  let v95 : BitVec 32 := Scalar.select v93 v94 v88
  let c1024_i32_53 : BitVec 32 := 1024#32
  let v98 : BitVec 32 := Scalar.muli v95 c1024_i32_53
  let c0_i32_58 : BitVec 32 := 0#32
  ![v85.toNat, v98.toNat, v97.toNat, 0]

def k0_chk1 (i : grid0.Coords) (v97 : BitVec 32) : Prop :=
  (∀ (k0_h2 : k0_cond2 i = 1#1), ∀ a, (k0_off4 i v97) a + S1x1024x1x1024.size a ≤ S4x2048x8x1024.size a)
theorem k0_off4_inb : ∀ (i : grid0.Coords) (v97 : BitVec 32) (k0_hw1 : k0_chk1 i v97), ∀ (k0_h2 : k0_cond2 i = 1#1), ∀ a, (k0_off4 i v97) a + S1x1024x1x1024.size a ≤ S4x2048x8x1024.size a := fun i v97 k0_hw1 k0_h2 => k0_hw1 k0_h2

def k0_off5 (i : grid0.Coords) : Fin 2 → Nat :=
  let arg0 : BitVec 32 := BitVec.ofNat 32 (i 0).val
  let c0_i32_40 : BitVec 32 := 0#32
  let v70 : BitVec 1 := Scalar.cmpi .sgt arg0 c0_i32_40
  let v71 : BitVec 32 := Scalar.extui v70
  let c0_i32_41 : BitVec 32 := 0#32
  let v72 : BitVec 1 := Scalar.cmpi .slt arg0 c0_i32_41
  let v73 : BitVec 32 := Scalar.extui v72
  let v74 : BitVec 32 := Scalar.subi v71 v73
  let c2_i32_39 : BitVec 32 := 2#32
  let c0_i32_42 : BitVec 32 := 0#32
  let v75 : BitVec 1 := Scalar.cmpi .sgt c2_i32_39 c0_i32_42
  let v76 : BitVec 32 := Scalar.extui v75
  let c0_i32_43 : BitVec 32 := 0#32
  let v77 : BitVec 1 := Scalar.cmpi .slt c2_i32_39 c0_i32_43
  let v78 : BitVec 32 := Scalar.extui v77
  let v79 : BitVec 32 := Scalar.subi v76 v78
  let v80 : BitVec 1 := Scalar.cmpi .ne v74 v79
  let v81 : BitVec 32 := Scalar.remsi arg0 c2_i32_39
  let c0_i32_44 : BitVec 32 := 0#32
  let v82 : BitVec 1 := Scalar.cmpi .ne v81 c0_i32_44
  let v83 : BitVec 1 := Scalar.andi v80 v82
  let v69 : BitVec 32 := Scalar.divsi arg0 c2_i32_39
  let c1_i32_45 : BitVec 32 := 1#32
  let v84 : BitVec 32 := Scalar.subi v69 c1_i32_45
  let v85 : BitVec 32 := Scalar.select v83 v84 v69
  let v105 : Index := Scalar.indexCast v85
  let c1_59 : Index := 1#32
  ![v105.toNat, 1]
def k0_off6 (i : grid0.Coords) : Fin 2 → Nat :=
  let arg0 : BitVec 32 := BitVec.ofNat 32 (i 0).val
  let c3_i32 : BitVec 32 := 3#32
  let v3 : BitVec 32 := Scalar.remsi arg0 c3_i32
  let c1_i32_62 : BitVec 32 := 1#32
  ![v3.toNat, 1]
def k0_off7 (i : grid0.Coords) : Fin 4 → Nat :=
  let arg0 : BitVec 32 := BitVec.ofNat 32 (i 0).val
  let c3_i32 : BitVec 32 := 3#32
  let v3 : BitVec 32 := Scalar.remsi arg0 c3_i32
  let c1_i32_61 : BitVec 32 := 1#32
  let c0_i32_63 : BitVec 32 := 0#32
  let c0_i32_64 : BitVec 32 := 0#32
  ![v3.toNat, 1, 0, 0]
def k0_off8 (i : grid0.Coords) (v106 : BitVec 32) : Fin 4 → Nat :=
  let arg0 : BitVec 32 := BitVec.ofNat 32 (i 0).val
  let c0_i32_40 : BitVec 32 := 0#32
  let v70 : BitVec 1 := Scalar.cmpi .sgt arg0 c0_i32_40
  let v71 : BitVec 32 := Scalar.extui v70
  let c0_i32_41 : BitVec 32 := 0#32
  let v72 : BitVec 1 := Scalar.cmpi .slt arg0 c0_i32_41
  let v73 : BitVec 32 := Scalar.extui v72
  let v74 : BitVec 32 := Scalar.subi v71 v73
  let c2_i32_39 : BitVec 32 := 2#32
  let c0_i32_42 : BitVec 32 := 0#32
  let v75 : BitVec 1 := Scalar.cmpi .sgt c2_i32_39 c0_i32_42
  let v76 : BitVec 32 := Scalar.extui v75
  let c0_i32_43 : BitVec 32 := 0#32
  let v77 : BitVec 1 := Scalar.cmpi .slt c2_i32_39 c0_i32_43
  let v78 : BitVec 32 := Scalar.extui v77
  let v79 : BitVec 32 := Scalar.subi v76 v78
  let v80 : BitVec 1 := Scalar.cmpi .ne v74 v79
  let v81 : BitVec 32 := Scalar.remsi arg0 c2_i32_39
  let c0_i32_44 : BitVec 32 := 0#32
  let v82 : BitVec 1 := Scalar.cmpi .ne v81 c0_i32_44
  let v83 : BitVec 1 := Scalar.andi v80 v82
  let v69 : BitVec 32 := Scalar.divsi arg0 c2_i32_39
  let c1_i32_45 : BitVec 32 := 1#32
  let v84 : BitVec 32 := Scalar.subi v69 c1_i32_45
  let v85 : BitVec 32 := Scalar.select v83 v84 v69
  let c2_i32_46 : BitVec 32 := 2#32
  let c0_i32_47 : BitVec 32 := 0#32
  let v86 : BitVec 1 := Scalar.cmpi .eq c2_i32_46 c0_i32_47
  let c1_i32_48 : BitVec 32 := 1#32
  let v87 : BitVec 32 := Scalar.select v86 c1_i32_48 c2_i32_46
  let v88 : BitVec 32 := Scalar.remsi arg0 v87
  let c0_i32_50 : BitVec 32 := 0#32
  let v90 : BitVec 1 := Scalar.cmpi .slt v88 c0_i32_50
  let c0_i32_51 : BitVec 32 := 0#32
  let v91 : BitVec 1 := Scalar.cmpi .slt v87 c0_i32_51
  let v92 : BitVec 1 := Scalar.xori v90 v91
  let c0_i32_49 : BitVec 32 := 0#32
  let v89 : BitVec 1 := Scalar.cmpi .ne v88 c0_i32_49
  let v93 : BitVec 1 := Scalar.andi v92 v89
  let v94 : BitVec 32 := Scalar.addi v88 v87
  let v95 : BitVec 32 := Scalar.select v93 v94 v88
  let c1024_i32_60 : BitVec 32 := 1024#32
  let v107 : BitVec 32 := Scalar.muli v95 c1024_i32_60
  let c0_i32_65 : BitVec 32 := 0#32
  ![v85.toNat, v107.toNat, v106.toNat, 0]

def k0_chk2 (i : grid0.Coords) (v106 : BitVec 32) : Prop :=
  (∀ (k0_h2 : k0_cond2 i = 1#1), ∀ a, (k0_off8 i v106) a + S1x1024x1x1024.size a ≤ S4x2048x8x1024.size a)
theorem k0_off8_inb : ∀ (i : grid0.Coords) (v106 : BitVec 32) (k0_hw2 : k0_chk2 i v106), ∀ (k0_h2 : k0_cond2 i = 1#1), ∀ a, (k0_off8 i v106) a + S1x1024x1x1024.size a ≤ S4x2048x8x1024.size a := fun i v106 k0_hw2 k0_h2 => k0_hw2 k0_h2

def k0_off9 (i : grid0.Coords) : Fin 2 → Nat :=
  let arg0 : BitVec 32 := BitVec.ofNat 32 (i 0).val
  let c1_i32_66 : BitVec 32 := 1#32
  let v114 : BitVec 32 := Scalar.addi arg0 c1_i32_66
  let c0_i32_70 : BitVec 32 := 0#32
  let v118 : BitVec 1 := Scalar.cmpi .sgt v114 c0_i32_70
  let v119 : BitVec 32 := Scalar.extui v118
  let c0_i32_71 : BitVec 32 := 0#32
  let v120 : BitVec 1 := Scalar.cmpi .slt v114 c0_i32_71
  let v121 : BitVec 32 := Scalar.extui v120
  let v122 : BitVec 32 := Scalar.subi v119 v121
  let c2_i32_69 : BitVec 32 := 2#32
  let c0_i32_72 : BitVec 32 := 0#32
  let v123 : BitVec 1 := Scalar.cmpi .sgt c2_i32_69 c0_i32_72
  let v124 : BitVec 32 := Scalar.extui v123
  let c0_i32_73 : BitVec 32 := 0#32
  let v125 : BitVec 1 := Scalar.cmpi .slt c2_i32_69 c0_i32_73
  let v126 : BitVec 32 := Scalar.extui v125
  let v127 : BitVec 32 := Scalar.subi v124 v126
  let v128 : BitVec 1 := Scalar.cmpi .ne v122 v127
  let v129 : BitVec 32 := Scalar.remsi v114 c2_i32_69
  let c0_i32_74 : BitVec 32 := 0#32
  let v130 : BitVec 1 := Scalar.cmpi .ne v129 c0_i32_74
  let v131 : BitVec 1 := Scalar.andi v128 v130
  let v117 : BitVec 32 := Scalar.divsi v114 c2_i32_69
  let c1_i32_75 : BitVec 32 := 1#32
  let v132 : BitVec 32 := Scalar.subi v117 c1_i32_75
  let v133 : BitVec 32 := Scalar.select v131 v132 v117
  let v144 : Index := Scalar.indexCast v133
  let c0_82 : Index := 0#32
  ![v144.toNat, 0]
def k0_off10 (i : grid0.Coords) : Fin 2 → Nat :=
  let arg0 : BitVec 32 := BitVec.ofNat 32 (i 0).val
  let c1_i32_67 : BitVec 32 := 1#32
  let v115 : BitVec 32 := Scalar.addi arg0 c1_i32_67
  let c3_i32_68 : BitVec 32 := 3#32
  let v116 : BitVec 32 := Scalar.remsi v115 c3_i32_68
  let c0_i32_85 : BitVec 32 := 0#32
  ![v116.toNat, 0]
def k0_off11 (i : grid0.Coords) : Fin 4 → Nat :=
  let arg0 : BitVec 32 := BitVec.ofNat 32 (i 0).val
  let c1_i32_67 : BitVec 32 := 1#32
  let v115 : BitVec 32 := Scalar.addi arg0 c1_i32_67
  let c3_i32_68 : BitVec 32 := 3#32
  let v116 : BitVec 32 := Scalar.remsi v115 c3_i32_68
  let c0_i32_84 : BitVec 32 := 0#32
  let c0_i32_86 : BitVec 32 := 0#32
  let c0_i32_87 : BitVec 32 := 0#32
  ![v116.toNat, 0, 0, 0]
def k0_off12 (i : grid0.Coords) (v145 : BitVec 32) : Fin 4 → Nat :=
  let arg0 : BitVec 32 := BitVec.ofNat 32 (i 0).val
  let c1_i32_66 : BitVec 32 := 1#32
  let v114 : BitVec 32 := Scalar.addi arg0 c1_i32_66
  let c0_i32_70 : BitVec 32 := 0#32
  let v118 : BitVec 1 := Scalar.cmpi .sgt v114 c0_i32_70
  let v119 : BitVec 32 := Scalar.extui v118
  let c0_i32_71 : BitVec 32 := 0#32
  let v120 : BitVec 1 := Scalar.cmpi .slt v114 c0_i32_71
  let v121 : BitVec 32 := Scalar.extui v120
  let v122 : BitVec 32 := Scalar.subi v119 v121
  let c2_i32_69 : BitVec 32 := 2#32
  let c0_i32_72 : BitVec 32 := 0#32
  let v123 : BitVec 1 := Scalar.cmpi .sgt c2_i32_69 c0_i32_72
  let v124 : BitVec 32 := Scalar.extui v123
  let c0_i32_73 : BitVec 32 := 0#32
  let v125 : BitVec 1 := Scalar.cmpi .slt c2_i32_69 c0_i32_73
  let v126 : BitVec 32 := Scalar.extui v125
  let v127 : BitVec 32 := Scalar.subi v124 v126
  let v128 : BitVec 1 := Scalar.cmpi .ne v122 v127
  let v129 : BitVec 32 := Scalar.remsi v114 c2_i32_69
  let c0_i32_74 : BitVec 32 := 0#32
  let v130 : BitVec 1 := Scalar.cmpi .ne v129 c0_i32_74
  let v131 : BitVec 1 := Scalar.andi v128 v130
  let v117 : BitVec 32 := Scalar.divsi v114 c2_i32_69
  let c1_i32_75 : BitVec 32 := 1#32
  let v132 : BitVec 32 := Scalar.subi v117 c1_i32_75
  let v133 : BitVec 32 := Scalar.select v131 v132 v117
  let c2_i32_76 : BitVec 32 := 2#32
  let c0_i32_77 : BitVec 32 := 0#32
  let v134 : BitVec 1 := Scalar.cmpi .eq c2_i32_76 c0_i32_77
  let c1_i32_78 : BitVec 32 := 1#32
  let v135 : BitVec 32 := Scalar.select v134 c1_i32_78 c2_i32_76
  let v136 : BitVec 32 := Scalar.remsi v114 v135
  let c0_i32_80 : BitVec 32 := 0#32
  let v138 : BitVec 1 := Scalar.cmpi .slt v136 c0_i32_80
  let c0_i32_81 : BitVec 32 := 0#32
  let v139 : BitVec 1 := Scalar.cmpi .slt v135 c0_i32_81
  let v140 : BitVec 1 := Scalar.xori v138 v139
  let c0_i32_79 : BitVec 32 := 0#32
  let v137 : BitVec 1 := Scalar.cmpi .ne v136 c0_i32_79
  let v141 : BitVec 1 := Scalar.andi v140 v137
  let v142 : BitVec 32 := Scalar.addi v136 v135
  let v143 : BitVec 32 := Scalar.select v141 v142 v136
  let c1024_i32_83 : BitVec 32 := 1024#32
  let v146 : BitVec 32 := Scalar.muli v143 c1024_i32_83
  let c0_i32_88 : BitVec 32 := 0#32
  ![v133.toNat, v146.toNat, v145.toNat, 0]

def k0_chk3 (i : grid0.Coords) (v145 : BitVec 32) : Prop :=
  (∀ (k0_h2 : k0_cond2 i = 1#1), ∀ a, (k0_off12 i v145) a + S1x1024x1x1024.size a ≤ S4x2048x8x1024.size a)
theorem k0_off12_inb : ∀ (i : grid0.Coords) (v145 : BitVec 32) (k0_hw3 : k0_chk3 i v145), ∀ (k0_h2 : k0_cond2 i = 1#1), ∀ a, (k0_off12 i v145) a + S1x1024x1x1024.size a ≤ S4x2048x8x1024.size a := fun i v145 k0_hw3 k0_h2 => k0_hw3 k0_h2

def k0_off13 (i : grid0.Coords) : Fin 2 → Nat :=
  let arg0 : BitVec 32 := BitVec.ofNat 32 (i 0).val
  let c1_i32_66 : BitVec 32 := 1#32
  let v114 : BitVec 32 := Scalar.addi arg0 c1_i32_66
  let c0_i32_70 : BitVec 32 := 0#32
  let v118 : BitVec 1 := Scalar.cmpi .sgt v114 c0_i32_70
  let v119 : BitVec 32 := Scalar.extui v118
  let c0_i32_71 : BitVec 32 := 0#32
  let v120 : BitVec 1 := Scalar.cmpi .slt v114 c0_i32_71
  let v121 : BitVec 32 := Scalar.extui v120
  let v122 : BitVec 32 := Scalar.subi v119 v121
  let c2_i32_69 : BitVec 32 := 2#32
  let c0_i32_72 : BitVec 32 := 0#32
  let v123 : BitVec 1 := Scalar.cmpi .sgt c2_i32_69 c0_i32_72
  let v124 : BitVec 32 := Scalar.extui v123
  let c0_i32_73 : BitVec 32 := 0#32
  let v125 : BitVec 1 := Scalar.cmpi .slt c2_i32_69 c0_i32_73
  let v126 : BitVec 32 := Scalar.extui v125
  let v127 : BitVec 32 := Scalar.subi v124 v126
  let v128 : BitVec 1 := Scalar.cmpi .ne v122 v127
  let v129 : BitVec 32 := Scalar.remsi v114 c2_i32_69
  let c0_i32_74 : BitVec 32 := 0#32
  let v130 : BitVec 1 := Scalar.cmpi .ne v129 c0_i32_74
  let v131 : BitVec 1 := Scalar.andi v128 v130
  let v117 : BitVec 32 := Scalar.divsi v114 c2_i32_69
  let c1_i32_75 : BitVec 32 := 1#32
  let v132 : BitVec 32 := Scalar.subi v117 c1_i32_75
  let v133 : BitVec 32 := Scalar.select v131 v132 v117
  let v153 : Index := Scalar.indexCast v133
  let c1_89 : Index := 1#32
  ![v153.toNat, 1]
def k0_off14 (i : grid0.Coords) : Fin 2 → Nat :=
  let arg0 : BitVec 32 := BitVec.ofNat 32 (i 0).val
  let c1_i32_67 : BitVec 32 := 1#32
  let v115 : BitVec 32 := Scalar.addi arg0 c1_i32_67
  let c3_i32_68 : BitVec 32 := 3#32
  let v116 : BitVec 32 := Scalar.remsi v115 c3_i32_68
  let c1_i32_92 : BitVec 32 := 1#32
  ![v116.toNat, 1]
def k0_off15 (i : grid0.Coords) : Fin 4 → Nat :=
  let arg0 : BitVec 32 := BitVec.ofNat 32 (i 0).val
  let c1_i32_67 : BitVec 32 := 1#32
  let v115 : BitVec 32 := Scalar.addi arg0 c1_i32_67
  let c3_i32_68 : BitVec 32 := 3#32
  let v116 : BitVec 32 := Scalar.remsi v115 c3_i32_68
  let c1_i32_91 : BitVec 32 := 1#32
  let c0_i32_93 : BitVec 32 := 0#32
  let c0_i32_94 : BitVec 32 := 0#32
  ![v116.toNat, 1, 0, 0]
def k0_off16 (i : grid0.Coords) (v154 : BitVec 32) : Fin 4 → Nat :=
  let arg0 : BitVec 32 := BitVec.ofNat 32 (i 0).val
  let c1_i32_66 : BitVec 32 := 1#32
  let v114 : BitVec 32 := Scalar.addi arg0 c1_i32_66
  let c0_i32_70 : BitVec 32 := 0#32
  let v118 : BitVec 1 := Scalar.cmpi .sgt v114 c0_i32_70
  let v119 : BitVec 32 := Scalar.extui v118
  let c0_i32_71 : BitVec 32 := 0#32
  let v120 : BitVec 1 := Scalar.cmpi .slt v114 c0_i32_71
  let v121 : BitVec 32 := Scalar.extui v120
  let v122 : BitVec 32 := Scalar.subi v119 v121
  let c2_i32_69 : BitVec 32 := 2#32
  let c0_i32_72 : BitVec 32 := 0#32
  let v123 : BitVec 1 := Scalar.cmpi .sgt c2_i32_69 c0_i32_72
  let v124 : BitVec 32 := Scalar.extui v123
  let c0_i32_73 : BitVec 32 := 0#32
  let v125 : BitVec 1 := Scalar.cmpi .slt c2_i32_69 c0_i32_73
  let v126 : BitVec 32 := Scalar.extui v125
  let v127 : BitVec 32 := Scalar.subi v124 v126
  let v128 : BitVec 1 := Scalar.cmpi .ne v122 v127
  let v129 : BitVec 32 := Scalar.remsi v114 c2_i32_69
  let c0_i32_74 : BitVec 32 := 0#32
  let v130 : BitVec 1 := Scalar.cmpi .ne v129 c0_i32_74
  let v131 : BitVec 1 := Scalar.andi v128 v130
  let v117 : BitVec 32 := Scalar.divsi v114 c2_i32_69
  let c1_i32_75 : BitVec 32 := 1#32
  let v132 : BitVec 32 := Scalar.subi v117 c1_i32_75
  let v133 : BitVec 32 := Scalar.select v131 v132 v117
  let c2_i32_76 : BitVec 32 := 2#32
  let c0_i32_77 : BitVec 32 := 0#32
  let v134 : BitVec 1 := Scalar.cmpi .eq c2_i32_76 c0_i32_77
  let c1_i32_78 : BitVec 32 := 1#32
  let v135 : BitVec 32 := Scalar.select v134 c1_i32_78 c2_i32_76
  let v136 : BitVec 32 := Scalar.remsi v114 v135
  let c0_i32_80 : BitVec 32 := 0#32
  let v138 : BitVec 1 := Scalar.cmpi .slt v136 c0_i32_80
  let c0_i32_81 : BitVec 32 := 0#32
  let v139 : BitVec 1 := Scalar.cmpi .slt v135 c0_i32_81
  let v140 : BitVec 1 := Scalar.xori v138 v139
  let c0_i32_79 : BitVec 32 := 0#32
  let v137 : BitVec 1 := Scalar.cmpi .ne v136 c0_i32_79
  let v141 : BitVec 1 := Scalar.andi v140 v137
  let v142 : BitVec 32 := Scalar.addi v136 v135
  let v143 : BitVec 32 := Scalar.select v141 v142 v136
  let c1024_i32_90 : BitVec 32 := 1024#32
  let v155 : BitVec 32 := Scalar.muli v143 c1024_i32_90
  let c0_i32_95 : BitVec 32 := 0#32
  ![v133.toNat, v155.toNat, v154.toNat, 0]

def k0_chk4 (i : grid0.Coords) (v154 : BitVec 32) : Prop :=
  (∀ (k0_h2 : k0_cond2 i = 1#1), ∀ a, (k0_off16 i v154) a + S1x1024x1x1024.size a ≤ S4x2048x8x1024.size a)
theorem k0_off16_inb : ∀ (i : grid0.Coords) (v154 : BitVec 32) (k0_hw4 : k0_chk4 i v154), ∀ (k0_h2 : k0_cond2 i = 1#1), ∀ a, (k0_off16 i v154) a + S1x1024x1x1024.size a ≤ S4x2048x8x1024.size a := fun i v154 k0_hw4 k0_h2 => k0_hw4 k0_h2

def k0_cond3 (i : grid0.Coords) : BitVec 1 :=
  let arg0 : BitVec 32 := BitVec.ofNat 32 (i 0).val
  let c2_i32 : BitVec 32 := 2#32
  let v7 : BitVec 32 := Scalar.addi arg0 c2_i32
  let c8_i32 : BitVec 32 := 8#32
  let v8 : BitVec 1 := Scalar.cmpi .slt v7 c8_i32
  let v9 : BitVec 32 := Scalar.extui v8
  let c0_i32_3 : BitVec 32 := 0#32
  let v10 : BitVec 1 := Scalar.cmpi .ne v9 c0_i32_3
  v10

def k0_off17 (i : grid0.Coords) : Fin 2 → Nat :=
  let arg0 : BitVec 32 := BitVec.ofNat 32 (i 0).val
  let c2_i32_39 : BitVec 32 := 2#32
  let v69 : BitVec 32 := Scalar.addi arg0 c2_i32_39
  let c0_i32_43 : BitVec 32 := 0#32
  let v73 : BitVec 1 := Scalar.cmpi .sgt v69 c0_i32_43
  let v74 : BitVec 32 := Scalar.extui v73
  let c0_i32_44 : BitVec 32 := 0#32
  let v75 : BitVec 1 := Scalar.cmpi .slt v69 c0_i32_44
  let v76 : BitVec 32 := Scalar.extui v75
  let v77 : BitVec 32 := Scalar.subi v74 v76
  let c2_i32_42 : BitVec 32 := 2#32
  let c0_i32_45 : BitVec 32 := 0#32
  let v78 : BitVec 1 := Scalar.cmpi .sgt c2_i32_42 c0_i32_45
  let v79 : BitVec 32 := Scalar.extui v78
  let c0_i32_46 : BitVec 32 := 0#32
  let v80 : BitVec 1 := Scalar.cmpi .slt c2_i32_42 c0_i32_46
  let v81 : BitVec 32 := Scalar.extui v80
  let v82 : BitVec 32 := Scalar.subi v79 v81
  let v83 : BitVec 1 := Scalar.cmpi .ne v77 v82
  let v84 : BitVec 32 := Scalar.remsi v69 c2_i32_42
  let c0_i32_47 : BitVec 32 := 0#32
  let v85 : BitVec 1 := Scalar.cmpi .ne v84 c0_i32_47
  let v86 : BitVec 1 := Scalar.andi v83 v85
  let v72 : BitVec 32 := Scalar.divsi v69 c2_i32_42
  let c1_i32_48 : BitVec 32 := 1#32
  let v87 : BitVec 32 := Scalar.subi v72 c1_i32_48
  let v88 : BitVec 32 := Scalar.select v86 v87 v72
  let v99 : Index := Scalar.indexCast v88
  let c0_55 : Index := 0#32
  ![v99.toNat, 0]
def k0_off18 (i : grid0.Coords) : Fin 2 → Nat :=
  let arg0 : BitVec 32 := BitVec.ofNat 32 (i 0).val
  let c2_i32_40 : BitVec 32 := 2#32
  let v70 : BitVec 32 := Scalar.addi arg0 c2_i32_40
  let c3_i32_41 : BitVec 32 := 3#32
  let v71 : BitVec 32 := Scalar.remsi v70 c3_i32_41
  let c0_i32_58 : BitVec 32 := 0#32
  ![v71.toNat, 0]
def k0_off19 (i : grid0.Coords) : Fin 4 → Nat :=
  let arg0 : BitVec 32 := BitVec.ofNat 32 (i 0).val
  let c2_i32_40 : BitVec 32 := 2#32
  let v70 : BitVec 32 := Scalar.addi arg0 c2_i32_40
  let c3_i32_41 : BitVec 32 := 3#32
  let v71 : BitVec 32 := Scalar.remsi v70 c3_i32_41
  let c0_i32_57 : BitVec 32 := 0#32
  let c0_i32_59 : BitVec 32 := 0#32
  let c0_i32_60 : BitVec 32 := 0#32
  ![v71.toNat, 0, 0, 0]
def k0_off20 (i : grid0.Coords) (v100 : BitVec 32) : Fin 4 → Nat :=
  let arg0 : BitVec 32 := BitVec.ofNat 32 (i 0).val
  let c2_i32_39 : BitVec 32 := 2#32
  let v69 : BitVec 32 := Scalar.addi arg0 c2_i32_39
  let c0_i32_43 : BitVec 32 := 0#32
  let v73 : BitVec 1 := Scalar.cmpi .sgt v69 c0_i32_43
  let v74 : BitVec 32 := Scalar.extui v73
  let c0_i32_44 : BitVec 32 := 0#32
  let v75 : BitVec 1 := Scalar.cmpi .slt v69 c0_i32_44
  let v76 : BitVec 32 := Scalar.extui v75
  let v77 : BitVec 32 := Scalar.subi v74 v76
  let c2_i32_42 : BitVec 32 := 2#32
  let c0_i32_45 : BitVec 32 := 0#32
  let v78 : BitVec 1 := Scalar.cmpi .sgt c2_i32_42 c0_i32_45
  let v79 : BitVec 32 := Scalar.extui v78
  let c0_i32_46 : BitVec 32 := 0#32
  let v80 : BitVec 1 := Scalar.cmpi .slt c2_i32_42 c0_i32_46
  let v81 : BitVec 32 := Scalar.extui v80
  let v82 : BitVec 32 := Scalar.subi v79 v81
  let v83 : BitVec 1 := Scalar.cmpi .ne v77 v82
  let v84 : BitVec 32 := Scalar.remsi v69 c2_i32_42
  let c0_i32_47 : BitVec 32 := 0#32
  let v85 : BitVec 1 := Scalar.cmpi .ne v84 c0_i32_47
  let v86 : BitVec 1 := Scalar.andi v83 v85
  let v72 : BitVec 32 := Scalar.divsi v69 c2_i32_42
  let c1_i32_48 : BitVec 32 := 1#32
  let v87 : BitVec 32 := Scalar.subi v72 c1_i32_48
  let v88 : BitVec 32 := Scalar.select v86 v87 v72
  let c2_i32_49 : BitVec 32 := 2#32
  let c0_i32_50 : BitVec 32 := 0#32
  let v89 : BitVec 1 := Scalar.cmpi .eq c2_i32_49 c0_i32_50
  let c1_i32_51 : BitVec 32 := 1#32
  let v90 : BitVec 32 := Scalar.select v89 c1_i32_51 c2_i32_49
  let v91 : BitVec 32 := Scalar.remsi v69 v90
  let c0_i32_53 : BitVec 32 := 0#32
  let v93 : BitVec 1 := Scalar.cmpi .slt v91 c0_i32_53
  let c0_i32_54 : BitVec 32 := 0#32
  let v94 : BitVec 1 := Scalar.cmpi .slt v90 c0_i32_54
  let v95 : BitVec 1 := Scalar.xori v93 v94
  let c0_i32_52 : BitVec 32 := 0#32
  let v92 : BitVec 1 := Scalar.cmpi .ne v91 c0_i32_52
  let v96 : BitVec 1 := Scalar.andi v95 v92
  let v97 : BitVec 32 := Scalar.addi v91 v90
  let v98 : BitVec 32 := Scalar.select v96 v97 v91
  let c1024_i32_56 : BitVec 32 := 1024#32
  let v101 : BitVec 32 := Scalar.muli v98 c1024_i32_56
  let c0_i32_61 : BitVec 32 := 0#32
  ![v88.toNat, v101.toNat, v100.toNat, 0]

def k0_chk5 (i : grid0.Coords) (v100 : BitVec 32) : Prop :=
  (∀ (k0_h3 : k0_cond3 i = 1#1), ∀ a, (k0_off20 i v100) a + S1x1024x1x1024.size a ≤ S4x2048x8x1024.size a)
theorem k0_off20_inb : ∀ (i : grid0.Coords) (v100 : BitVec 32) (k0_hw5 : k0_chk5 i v100), ∀ (k0_h3 : k0_cond3 i = 1#1), ∀ a, (k0_off20 i v100) a + S1x1024x1x1024.size a ≤ S4x2048x8x1024.size a := fun i v100 k0_hw5 k0_h3 => k0_hw5 k0_h3

def k0_off21 (i : grid0.Coords) : Fin 2 → Nat :=
  let arg0 : BitVec 32 := BitVec.ofNat 32 (i 0).val
  let c2_i32_39 : BitVec 32 := 2#32
  let v69 : BitVec 32 := Scalar.addi arg0 c2_i32_39
  let c0_i32_43 : BitVec 32 := 0#32
  let v73 : BitVec 1 := Scalar.cmpi .sgt v69 c0_i32_43
  let v74 : BitVec 32 := Scalar.extui v73
  let c0_i32_44 : BitVec 32 := 0#32
  let v75 : BitVec 1 := Scalar.cmpi .slt v69 c0_i32_44
  let v76 : BitVec 32 := Scalar.extui v75
  let v77 : BitVec 32 := Scalar.subi v74 v76
  let c2_i32_42 : BitVec 32 := 2#32
  let c0_i32_45 : BitVec 32 := 0#32
  let v78 : BitVec 1 := Scalar.cmpi .sgt c2_i32_42 c0_i32_45
  let v79 : BitVec 32 := Scalar.extui v78
  let c0_i32_46 : BitVec 32 := 0#32
  let v80 : BitVec 1 := Scalar.cmpi .slt c2_i32_42 c0_i32_46
  let v81 : BitVec 32 := Scalar.extui v80
  let v82 : BitVec 32 := Scalar.subi v79 v81
  let v83 : BitVec 1 := Scalar.cmpi .ne v77 v82
  let v84 : BitVec 32 := Scalar.remsi v69 c2_i32_42
  let c0_i32_47 : BitVec 32 := 0#32
  let v85 : BitVec 1 := Scalar.cmpi .ne v84 c0_i32_47
  let v86 : BitVec 1 := Scalar.andi v83 v85
  let v72 : BitVec 32 := Scalar.divsi v69 c2_i32_42
  let c1_i32_48 : BitVec 32 := 1#32
  let v87 : BitVec 32 := Scalar.subi v72 c1_i32_48
  let v88 : BitVec 32 := Scalar.select v86 v87 v72
  let v108 : Index := Scalar.indexCast v88
  let c1_62 : Index := 1#32
  ![v108.toNat, 1]
def k0_off22 (i : grid0.Coords) : Fin 2 → Nat :=
  let arg0 : BitVec 32 := BitVec.ofNat 32 (i 0).val
  let c2_i32_40 : BitVec 32 := 2#32
  let v70 : BitVec 32 := Scalar.addi arg0 c2_i32_40
  let c3_i32_41 : BitVec 32 := 3#32
  let v71 : BitVec 32 := Scalar.remsi v70 c3_i32_41
  let c1_i32_65 : BitVec 32 := 1#32
  ![v71.toNat, 1]
def k0_off23 (i : grid0.Coords) : Fin 4 → Nat :=
  let arg0 : BitVec 32 := BitVec.ofNat 32 (i 0).val
  let c2_i32_40 : BitVec 32 := 2#32
  let v70 : BitVec 32 := Scalar.addi arg0 c2_i32_40
  let c3_i32_41 : BitVec 32 := 3#32
  let v71 : BitVec 32 := Scalar.remsi v70 c3_i32_41
  let c1_i32_64 : BitVec 32 := 1#32
  let c0_i32_66 : BitVec 32 := 0#32
  let c0_i32_67 : BitVec 32 := 0#32
  ![v71.toNat, 1, 0, 0]
def k0_off24 (i : grid0.Coords) (v109 : BitVec 32) : Fin 4 → Nat :=
  let arg0 : BitVec 32 := BitVec.ofNat 32 (i 0).val
  let c2_i32_39 : BitVec 32 := 2#32
  let v69 : BitVec 32 := Scalar.addi arg0 c2_i32_39
  let c0_i32_43 : BitVec 32 := 0#32
  let v73 : BitVec 1 := Scalar.cmpi .sgt v69 c0_i32_43
  let v74 : BitVec 32 := Scalar.extui v73
  let c0_i32_44 : BitVec 32 := 0#32
  let v75 : BitVec 1 := Scalar.cmpi .slt v69 c0_i32_44
  let v76 : BitVec 32 := Scalar.extui v75
  let v77 : BitVec 32 := Scalar.subi v74 v76
  let c2_i32_42 : BitVec 32 := 2#32
  let c0_i32_45 : BitVec 32 := 0#32
  let v78 : BitVec 1 := Scalar.cmpi .sgt c2_i32_42 c0_i32_45
  let v79 : BitVec 32 := Scalar.extui v78
  let c0_i32_46 : BitVec 32 := 0#32
  let v80 : BitVec 1 := Scalar.cmpi .slt c2_i32_42 c0_i32_46
  let v81 : BitVec 32 := Scalar.extui v80
  let v82 : BitVec 32 := Scalar.subi v79 v81
  let v83 : BitVec 1 := Scalar.cmpi .ne v77 v82
  let v84 : BitVec 32 := Scalar.remsi v69 c2_i32_42
  let c0_i32_47 : BitVec 32 := 0#32
  let v85 : BitVec 1 := Scalar.cmpi .ne v84 c0_i32_47
  let v86 : BitVec 1 := Scalar.andi v83 v85
  let v72 : BitVec 32 := Scalar.divsi v69 c2_i32_42
  let c1_i32_48 : BitVec 32 := 1#32
  let v87 : BitVec 32 := Scalar.subi v72 c1_i32_48
  let v88 : BitVec 32 := Scalar.select v86 v87 v72
  let c2_i32_49 : BitVec 32 := 2#32
  let c0_i32_50 : BitVec 32 := 0#32
  let v89 : BitVec 1 := Scalar.cmpi .eq c2_i32_49 c0_i32_50
  let c1_i32_51 : BitVec 32 := 1#32
  let v90 : BitVec 32 := Scalar.select v89 c1_i32_51 c2_i32_49
  let v91 : BitVec 32 := Scalar.remsi v69 v90
  let c0_i32_53 : BitVec 32 := 0#32
  let v93 : BitVec 1 := Scalar.cmpi .slt v91 c0_i32_53
  let c0_i32_54 : BitVec 32 := 0#32
  let v94 : BitVec 1 := Scalar.cmpi .slt v90 c0_i32_54
  let v95 : BitVec 1 := Scalar.xori v93 v94
  let c0_i32_52 : BitVec 32 := 0#32
  let v92 : BitVec 1 := Scalar.cmpi .ne v91 c0_i32_52
  let v96 : BitVec 1 := Scalar.andi v95 v92
  let v97 : BitVec 32 := Scalar.addi v91 v90
  let v98 : BitVec 32 := Scalar.select v96 v97 v91
  let c1024_i32_63 : BitVec 32 := 1024#32
  let v110 : BitVec 32 := Scalar.muli v98 c1024_i32_63
  let c0_i32_68 : BitVec 32 := 0#32
  ![v88.toNat, v110.toNat, v109.toNat, 0]

def k0_chk6 (i : grid0.Coords) (v109 : BitVec 32) : Prop :=
  (∀ (k0_h3 : k0_cond3 i = 1#1), ∀ a, (k0_off24 i v109) a + S1x1024x1x1024.size a ≤ S4x2048x8x1024.size a)
theorem k0_off24_inb : ∀ (i : grid0.Coords) (v109 : BitVec 32) (k0_hw6 : k0_chk6 i v109), ∀ (k0_h3 : k0_cond3 i = 1#1), ∀ a, (k0_off24 i v109) a + S1x1024x1x1024.size a ≤ S4x2048x8x1024.size a := fun i v109 k0_hw6 k0_h3 => k0_hw6 k0_h3

def k0_off25 (i : grid0.Coords) : Fin 2 → Nat :=
  let arg0 : BitVec 32 := BitVec.ofNat 32 (i 0).val
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c2_i32_4 : BitVec 32 := 2#32
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let v11 : BitVec 32 := Scalar.divsi arg0 c2_i32_4
  let c1_i32 : BitVec 32 := 1#32
  let v26 : BitVec 32 := Scalar.subi v11 c1_i32
  let v27 : BitVec 32 := Scalar.select v25 v26 v11
  let v38 : Index := Scalar.indexCast v27
  let c0 : Index := 0#32
  ![v38.toNat, 0]
def k0_off26 (i : grid0.Coords) : Fin 2 → Nat :=
  let arg0 : BitVec 32 := BitVec.ofNat 32 (i 0).val
  let c3_i32 : BitVec 32 := 3#32
  let v3 : BitVec 32 := Scalar.remsi arg0 c3_i32
  let c0_i32_17 : BitVec 32 := 0#32
  ![v3.toNat, 0]
def k0_off27 (i : grid0.Coords) : Fin 4 → Nat :=
  let arg0 : BitVec 32 := BitVec.ofNat 32 (i 0).val
  let c3_i32 : BitVec 32 := 3#32
  let v3 : BitVec 32 := Scalar.remsi arg0 c3_i32
  let c0_i32_16 : BitVec 32 := 0#32
  let c0_i32_18 : BitVec 32 := 0#32
  let c0_i32_19 : BitVec 32 := 0#32
  ![v3.toNat, 0, 0, 0]
def k0_off28 (i : grid0.Coords) (v39 : BitVec 32) : Fin 4 → Nat :=
  let arg0 : BitVec 32 := BitVec.ofNat 32 (i 0).val
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c2_i32_4 : BitVec 32 := 2#32
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let v11 : BitVec 32 := Scalar.divsi arg0 c2_i32_4
  let c1_i32 : BitVec 32 := 1#32
  let v26 : BitVec 32 := Scalar.subi v11 c1_i32
  let v27 : BitVec 32 := Scalar.select v25 v26 v11
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi arg0 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c1024_i32 : BitVec 32 := 1024#32
  let v40 : BitVec 32 := Scalar.muli v37 c1024_i32
  let c0_i32_20 : BitVec 32 := 0#32
  ![v27.toNat, v40.toNat, v39.toNat, 0]

def k0_chk7 (i : grid0.Coords) (v39 : BitVec 32) : Prop :=
  (∀ a, (k0_off28 i v39) a + S1x1024x1x1024.size a ≤ S4x2048x8x1024.size a)
theorem k0_off28_inb : ∀ (i : grid0.Coords) (v39 : BitVec 32) (k0_hw7 : k0_chk7 i v39), ∀ a, (k0_off28 i v39) a + S1x1024x1x1024.size a ≤ S4x2048x8x1024.size a := fun i v39 k0_hw7 => k0_hw7

def k0_off29 (i : grid0.Coords) : Fin 2 → Nat :=
  let arg0 : BitVec 32 := BitVec.ofNat 32 (i 0).val
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c2_i32_4 : BitVec 32 := 2#32
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let v11 : BitVec 32 := Scalar.divsi arg0 c2_i32_4
  let c1_i32 : BitVec 32 := 1#32
  let v26 : BitVec 32 := Scalar.subi v11 c1_i32
  let v27 : BitVec 32 := Scalar.select v25 v26 v11
  let v47 : Index := Scalar.indexCast v27
  let c1 : Index := 1#32
  ![v47.toNat, 1]
def k0_off30 (i : grid0.Coords) : Fin 2 → Nat :=
  let arg0 : BitVec 32 := BitVec.ofNat 32 (i 0).val
  let c3_i32 : BitVec 32 := 3#32
  let v3 : BitVec 32 := Scalar.remsi arg0 c3_i32
  let c1_i32_23 : BitVec 32 := 1#32
  ![v3.toNat, 1]
def k0_off31 (i : grid0.Coords) : Fin 4 → Nat :=
  let arg0 : BitVec 32 := BitVec.ofNat 32 (i 0).val
  let c3_i32 : BitVec 32 := 3#32
  let v3 : BitVec 32 := Scalar.remsi arg0 c3_i32
  let c1_i32_22 : BitVec 32 := 1#32
  let c0_i32_24 : BitVec 32 := 0#32
  let c0_i32_25 : BitVec 32 := 0#32
  ![v3.toNat, 1, 0, 0]
def k0_off32 (i : grid0.Coords) (v48 : BitVec 32) : Fin 4 → Nat :=
  let arg0 : BitVec 32 := BitVec.ofNat 32 (i 0).val
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c2_i32_4 : BitVec 32 := 2#32
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let v11 : BitVec 32 := Scalar.divsi arg0 c2_i32_4
  let c1_i32 : BitVec 32 := 1#32
  let v26 : BitVec 32 := Scalar.subi v11 c1_i32
  let v27 : BitVec 32 := Scalar.select v25 v26 v11
  let c2_i32_10 : BitVec 32 := 2#32
  let c0_i32_11 : BitVec 32 := 0#32
  let v28 : BitVec 1 := Scalar.cmpi .eq c2_i32_10 c0_i32_11
  let c1_i32_12 : BitVec 32 := 1#32
  let v29 : BitVec 32 := Scalar.select v28 c1_i32_12 c2_i32_10
  let v30 : BitVec 32 := Scalar.remsi arg0 v29
  let c0_i32_14 : BitVec 32 := 0#32
  let v32 : BitVec 1 := Scalar.cmpi .slt v30 c0_i32_14
  let c0_i32_15 : BitVec 32 := 0#32
  let v33 : BitVec 1 := Scalar.cmpi .slt v29 c0_i32_15
  let v34 : BitVec 1 := Scalar.xori v32 v33
  let c0_i32_13 : BitVec 32 := 0#32
  let v31 : BitVec 1 := Scalar.cmpi .ne v30 c0_i32_13
  let v35 : BitVec 1 := Scalar.andi v34 v31
  let v36 : BitVec 32 := Scalar.addi v30 v29
  let v37 : BitVec 32 := Scalar.select v35 v36 v30
  let c1024_i32_21 : BitVec 32 := 1024#32
  let v49 : BitVec 32 := Scalar.muli v37 c1024_i32_21
  let c0_i32_26 : BitVec 32 := 0#32
  ![v27.toNat, v49.toNat, v48.toNat, 0]

def k0_chk8 (i : grid0.Coords) (v48 : BitVec 32) : Prop :=
  (∀ a, (k0_off32 i v48) a + S1x1024x1x1024.size a ≤ S4x2048x8x1024.size a)
theorem k0_off32_inb : ∀ (i : grid0.Coords) (v48 : BitVec 32) (k0_hw8 : k0_chk8 i v48), ∀ a, (k0_off32 i v48) a + S1x1024x1x1024.size a ≤ S4x2048x8x1024.size a := fun i v48 k0_hw8 => k0_hw8

def k0_off33 (i : grid0.Coords) : Fin 4 → Nat :=
  let arg0 : BitVec 32 := BitVec.ofNat 32 (i 0).val
  let c3_i32 : BitVec 32 := 3#32
  let v3 : BitVec 32 := Scalar.remsi arg0 c3_i32
  let v58 : Index := Scalar.indexCast v3
  let c0_30 : Index := 0#32
  let c0_31 : Index := 0#32
  let c0_32 : Index := 0#32
  ![v58.toNat, 0, 0, 0]
def k0_off34 (i : grid0.Coords) : Fin 4 → Nat :=
  let arg0 : BitVec 32 := BitVec.ofNat 32 (i 0).val
  let c3_i32 : BitVec 32 := 3#32
  let v3 : BitVec 32 := Scalar.remsi arg0 c3_i32
  let v61 : Index := Scalar.indexCast v3
  let c1_33 : Index := 1#32
  let c0_34 : Index := 0#32
  let c0_35 : Index := 0#32
  ![v61.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x2048x1024 : Shape := ⟨3, ![4, 2048, 1024]⟩
abbrev S4x2048x1024x8 : Shape := ⟨4, ![4, 2048, 1024, 8]⟩
abbrev S8x1024 : Shape := ⟨2, ![8, 1024]⟩
abbrev S8 : Shape := ⟨1, ![8]⟩
abbrev S4x1x1024 : Shape := ⟨3, ![4, 1, 1024]⟩
abbrev S4x1024 : Shape := ⟨2, ![4, 1024]⟩
abbrev S1024x8 : Shape := ⟨2, ![1024, 8]⟩
abbrev S4x8 : Shape := ⟨2, ![4, 8]⟩
abbrev S1x8 : Shape := ⟨2, ![1, 8]⟩
abbrev S4x2 : Shape := ⟨2, ![4, 2]⟩
abbrev S4x1x1x2 : Shape := ⟨4, ![4, 1, 1, 2]⟩
abbrev S4x2048x1024x2 : Shape := ⟨4, ![4, 2048, 1024, 2]⟩
abbrev S_ : Shape := ⟨0, ![]⟩
abbrev S4x2048x1024x2x1 : Shape := ⟨5, ![4, 2048, 1024, 2, 1]⟩
abbrev S1 : Shape := ⟨1, ![1]⟩
abbrev S1x1x1x1x1 : Shape := ⟨5, ![1, 1, 1, 1, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024x8, .f32⟩
  | .hbm, ⟨3, _⟩ => ⟨S8x1024, .f32⟩
  | .hbm, ⟨4, _⟩ => ⟨S8, .f32⟩
  | .hbm, ⟨5, _⟩ => ⟨S4x1x1024, .f32⟩
  | .hbm, ⟨6, _⟩ => ⟨S4x1024, .f32⟩
  | .hbm, ⟨7, _⟩ => ⟨S1024x8, .f32⟩
  | .hbm, ⟨8, _⟩ => ⟨S4x8, .f32⟩
  | .hbm, ⟨9, _⟩ => ⟨S1x8, .f32⟩
  | .hbm, ⟨10, _⟩ => ⟨S4x8, .f32⟩
  | .hbm, ⟨11, _⟩ => ⟨S4x8, .f32⟩
  | .hbm, ⟨12, _⟩ => ⟨S4x2, .f32⟩
  | .hbm, ⟨13, _⟩ => ⟨S4x2, .i32⟩
  | .hbm, ⟨14, _⟩ => ⟨S4x1x1x2, .i32⟩
  | .hbm, ⟨15, _⟩ => ⟨S4x2048x1024x2, .i32⟩
  | .hbm, ⟨16, _⟩ => ⟨S_, .i32⟩
  | .hbm, ⟨17, _⟩ => ⟨S4x2048x1024x2, .i32⟩
  | .hbm, ⟨18, _⟩ => ⟨S4x2048x1024x2, .i1⟩
  | .hbm, ⟨19, _⟩ => ⟨S_, .i32⟩
  | .hbm, ⟨20, _⟩ => ⟨S4x2048x1024x2, .i32⟩
  | .hbm, ⟨21, _⟩ => ⟨S4x2048x1024x2, .i32⟩
  | .hbm, ⟨22, _⟩ => ⟨S4x2048x1024x2, .i32⟩
  | .hbm, ⟨23, _⟩ => ⟨S4x2048x1024x2x1, .i32⟩
  | .hbm, ⟨24, _⟩ => ⟨S1, .i32⟩
  | .hbm, ⟨25, _⟩ => ⟨S_, .i32⟩
  | .hbm, ⟨26, _⟩ => ⟨S4x2048x1024x2x1, .i32⟩
  | .hbm, ⟨27, _⟩ => ⟨S4x2048x1024x2x1, .i1⟩
  | .hbm, ⟨28, _⟩ => ⟨S1x1x1x1x1, .i32⟩
  | .hbm, ⟨29, _⟩ => ⟨S4x2048x1024x2x1, .i32⟩
  | .hbm, ⟨30, _⟩ => ⟨S4x2048x1024x2x1, .i1⟩
  | .hbm, ⟨31, _⟩ => ⟨S4x2048x1024x2x1, .i1⟩
  | .hbm, ⟨32, _⟩ => ⟨S_, .i1⟩
  | .hbm, ⟨33, _⟩ => ⟨S4x2048x1024x2, .i1⟩
  | .hbm, ⟨34, _⟩ => ⟨S4x2048x1024x2, .f32⟩
  | .hbm, ⟨35, _⟩ => ⟨S_, .f32⟩
  | .hbm, ⟨36, _⟩ => ⟨S4x2048x1024x2, .f32⟩
  | .hbm, ⟨37, _⟩ => ⟨S4x2048x1024x2, .f32⟩
  | .hbm, ⟨38, _⟩ => ⟨S_, .f32⟩
  | .hbm, ⟨39, _⟩ => ⟨S4x2048x1024, .f32⟩
  | .hbm, ⟨40, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_values : Ref sig .tc := ⟨.hbm, 12, rfl⟩
abbrev main_indices : Ref sig .tc := ⟨.hbm, 13, rfl⟩
abbrev main_v7 : Ref sig .tc := ⟨.hbm, 14, rfl⟩
abbrev main_v8 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v9 : Ref sig .tc := ⟨.hbm, 37, rfl⟩
abbrev main_cst : Ref sig .tc := ⟨.hbm, 38, rfl⟩
abbrev main_v10 : Ref sig .tc := ⟨.hbm, 39, rfl⟩
abbrev main_v11 : Ref sig .tc := ⟨.hbm, 40, rfl⟩

abbrev nD : Nat := 1
abbrev τ : Topo := Topo.v7x

variable {F : FTy → Type} [FloatOps F]
-- ==== Proof.Ring.lean ====
/-
  Hand-written. The kernel's three slots of two halves each and the two transfers that fill a slot, one on each of the
  slot's two cells: what a slot part is when it is free and when a copy of an adapter block is in flight into it.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The transposed adapter array, left in HBM; the index words; the three slots. -/
abbrev lora : Memref sig .tc .hbm S4x2048x8x1024 .f32 := Memref.whole main_v2
abbrev words : Memref sig .tc .smem S4x2 .i32 := Memref.whole cc0_scratch0
abbrev slots : Memref sig .tc .vmem S3x2x1024x1024 .f32 := Memref.whole cc0_scratch1

/-- The contents of a memref's buffer on core `c`. -/
abbrev BufOf (c : Dev nD) {sp : Space} {S : Shape} {e : EltTy} (M : Memref sig .tc sp S e) : Type :=
  Buf (Elt F) (M.view.loc (c : Thread nD τ))

theorem half_inb (s k : ℕ) (hs : s < 3) (hk : k < 2) :
    ∀ a, (![s, k, 0, 0] : Fin 4 → ℕ) a + S1x1x1024x1024.size a ≤ S3x2x1024x1024.size a := by
  intro a; fin_cases a
  · show s + 1 ≤ 3; omega
  · show k + 1 ≤ 2; omega
  · show 0 + 1024 ≤ 1024; omega
  · show 0 + 1024 ≤ 1024; omega

/-- Half `k` of slot `s`. -/
abbrev half (s k : ℕ) (hs : s < 3) (hk : k < 2) : Memref sig .tc .vmem S1024x1024 .f32 :=
  (slots.slice (Rect.unit (s := S3x2x1024x1024) ![s, k, 0, 0] S1x1x1024x1024.size (half_inb s k hs hk)) (fun _ => rfl)).squeeze
    S1024x1024 squeezes_S1x1x1024x1024_S1024x1024

theorem source_inb (b r e : ℕ) (hb : b < 4) (hr : r ≤ 1024) (he : e < 8) :
    ∀ a, (![b, r, e, 0] : Fin 4 → ℕ) a + S1x1024x1x1024.size a ≤ S4x2048x8x1024.size a := by
  intro a; fin_cases a
  · show b + 1 ≤ 4; omega
  · show r + 1024 ≤ 2048; omega
  · show e + 1 ≤ 8; omega
  · show 0 + 1024 ≤ 1024; omega

/-- The block of adapter `e` over batch row `b` and the 1024 positions from `r` on. -/
abbrev source (b r e : ℕ) (hb : b < 4) (hr : r ≤ 1024) (he : e < 8) : Memref sig .tc .hbm S1024x1024 .f32 :=
  (lora.slice (Rect.unit (s := S4x2048x8x1024) ![b, r, e, 0] S1x1024x1x1024.size (source_inb b r e hb hr he)) (fun _ => rfl)).squeeze
    S1024x1024 squeezes_S1x1024x1x1024_S1024x1024

/-- The cell on which half `k` of slot `s` is filled. -/
abbrev cellNo (s k : ℕ) : ℕ := 7 + 2 * s + k
theorem cellNo_lt (s k : ℕ) (hs : s < 3) (hk : k < 2) : cellNo s k < 13 := by unfold cellNo; omega
abbrev cell (n : ℕ) (hn : n < 13) : SemLoc sig := SemLoc.dma ⟨n, hn⟩

/-- The adapter array under the read share of cell number `n`, at the elements `S`. -/
abbrev tok (c : Dev nD) (n : ℕ) (S : Finset (Idx (lora.view.loc (c : Thread nD τ)))) (L : BufOf (F := F) c lora) : sProp 𝕄 :=
  lora.view.loc (c : Thread nD τ) ↦[S]{Transfers.shareTokN fullShare n} L

/-- The index words held whole at the contents `f`; a staging memref held at the contents `f`. -/
abbrev wordsAt (c : Dev nD) (f : BufOf (F := F) c words) : sProp 𝕄 := words.view.loc (c : Thread nD τ) ↦{fullShare} f
abbrev blockAt (c : Dev nD) {S : Shape} (M : Memref sig .tc .vmem S .f32) (f : BufOf (F := F) c M) : sProp 𝕄 :=
  M.view.loc (c : Thread nD τ) ↦[M.view.set]{fullShare} f

theorem word_inb (b k : ℕ) (hb : b < 4) (hk : k < 2) : ∀ a, (![b, k] : Fin 2 → ℕ) a + S1x1.size a ≤ S4x2.size a := by
  intro a; fin_cases a
  · show b + 1 ≤ 4; omega
  · show k + 1 ≤ 2; omega

/-- The contents `f` of the index words read `w b k` at row `b`, column `k`. -/
def Reads (c : Dev nD) (w : ℕ → ℕ → BitVec 32) (f : BufOf (F := F) c words) : Prop :=
  ∀ b k (hb : b < 4) (hk : k < 2),
    View.readAt (Elt F) words.view (Rect.unit (s := S4x2) ![b, k] S1x1.size (word_inb b k hb hk)).toLoadRect f = fun _ => w b k

/-- Half `k` of slot `s` held at the contents `f`. -/
abbrev halfAt (c : Dev nD) (s k : ℕ) (hs : s < 3) (hk : k < 2) (f : BufOf (F := F) c (half s k hs hk)) : sProp 𝕄 :=
  (half s k hs hk).view.loc (c : Thread nD τ) ↦[(half s k hs hk).view.set]{fullShare} f

/-- A half FREE: its cell `n` at zero, the half at anything, its read share of the adapters whole. -/
abbrev free (c : Dev nD) (L : BufOf (F := F) c lora) (s k n : ℕ) (hs : s < 3) (hk : k < 2) (hn : n < 13) : sProp 𝕄 :=
  iprop(semVal ((c : Thread nD τ), cell n hn) 0 ∗ (∃ f, halfAt c s k hs hk f) ∗ tok c n Finset.univ L)

/-- A half IN FLIGHT with the block of adapter `e` over batch row `b` and the positions from `r` on: the transfer, and what
    its source left of the read share. -/
abbrev inflight (c : Dev nD) (L : BufOf (F := F) c lora) (s k n : ℕ) (hs : s < 3) (hk : k < 2) (hn : n < 13)
    (b r e : ℕ) (hb : b < 4) (hr : r ≤ 1024) (he : e < 8) : sProp 𝕄 :=
  iprop((∃ f, Transfers.Flight (countersEmb (U := Pipeline.UD sig nD τ)) (c : Thread nD τ) (cell n hn) () ((half s k hs hk).view.dmaCredit)
            iprop(halfAt c s k hs hk ((half s k hs hk).view.writes (Elt F) f [⟨Rect.whole S1024x1024, ReadAs.same.apply ((source b r e hb hr he).view.read (Elt F) L)⟩])
              ∗ tok c n (source b r e hb hr he).view.set L))
    ∗ tok c n (Finset.univ \ (source b r e hb hr he).view.set) L)

/-! ## The steps' transfers: step `j` uses slot `j % 3` and reads batch row `j / 2`, half `j % 2` of the positions -/

/-- The slot of step `j` FREE in half `k`. -/
abbrev freeStep (c : Dev nD) (L : BufOf (F := F) c lora) (j k : ℕ) (hk : k < 2) : sProp 𝕄 :=
  free c L (j % 3) k (7 + 2 * (j % 3) + k) (Nat.mod_lt _ (by decide)) hk (by have := Nat.mod_lt j (show 3 > 0 by decide); omega)

/-- Step `j`'s transfer of its `k`-th adapter IN FLIGHT. -/
abbrev flightStep (c : Dev nD) (L : BufOf (F := F) c lora) (w : ℕ → ℕ → BitVec 32) (hw : ∀ b k, (w b k).toNat < 8) (j k : ℕ) (hk : k < 2) : sProp 𝕄 :=
  inflight c L (j % 3) k (7 + 2 * (j % 3) + k) (Nat.mod_lt _ (by decide)) hk (by have := Nat.mod_lt j (show 3 > 0 by decide); omega)
    (j / 2 % 4) (j % 2 * 1024) (w (j / 2 % 4) k).toNat (Nat.mod_lt _ (by decide)) (by have := Nat.mod_lt j (show 2 > 0 by decide); omega) (hw _ _)

/-- What the body reads off half `k` of slot `s` once the block `X` has landed there. -/
abbrev landed (s k : ℕ) (hs : s < 3) (hk : k < 2) (X : S1024x1024.Idx → Elt F .f32) : Vec F S1x1x1024x1024 .f32 :=
  View.readAt (Elt F) slots.view (Rect.unit (s := S3x2x1024x1024) ![s, k, 0, 0] S1x1x1024x1024.size (half_inb s k hs hk)).toLoadRect
    ((half s k hs hk).view.writes (Elt F) (half s k hs hk).view.junk [⟨Rect.whole S1024x1024, X⟩])

/-- Step `j`'s block of its `k`-th adapter, as the body reads it. -/
abbrev landedStep (c : Dev nD) (L : BufOf (F := F) c lora) (w : ℕ → ℕ → BitVec 32) (hw : ∀ b k, (w b k).toNat < 8) (j k : ℕ) (hk : k < 2) :
    Vec F S1x1x1024x1024 .f32 :=
  landed (j % 3) k (Nat.mod_lt _ (by decide)) hk (ReadAs.same.apply ((source (j / 2 % 4) (j % 2 * 1024) (w (j / 2 % 4) k).toNat
    (Nat.mod_lt _ (by decide)) (by have := Nat.mod_lt j (show 2 > 0 by decide); omega) (hw _ _)).view.read (Elt F) L))

/-- What point `j` stores: the base block plus the sum of the two landed blocks. -/
abbrev stored (c : Dev nD) (L : BufOf (F := F) c lora) (w : ℕ → ℕ → BitVec 32) (hw : ∀ b k, (w b k).toNat < 8) (j : ℕ)
    (x : Vec F S1x1024x1024 .f32) : Vec F S1x1024x1024 .f32 :=
  k0_pay1 (k0_pay21 x (landedStep c L w hw j 0 (by decide)) (landedStep c L w hw j 1 (by decide)))

end Cert.KernelIdeal.Hand

end
-- ==== Proof.Slots.lean ====
/-
  Hand-written. What the launch hands the region, cut as the ring wants it: the slot buffer as its six halves, the adapter
  array's share as one read token per cell; the ring before each point; and both put together again at the end.
-/
module

public import proofs.«01_k».proof.Proof.Ring
public import Idealize.ShloMosaic.Lib.Pipeline.FrameBody
public import Idealize.ShloMosaic.Lib.Ring
public import Idealize.ShloMosaic.Lib.Ring.AtN
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The six halves -/

/-- The slot buffer's place on core `c`. -/
abbrev slotLoc (c : Dev nD) : Loc nD τ sig := (c : Thread nD τ).loc cc0_scratch1

theorem half_set (s k : ℕ) (hs : s < 3) (hk : k < 2) :
    (half s k hs hk).view.set = (Rect.unit (s := S3x2x1024x1024) ![s, k, 0, 0] S1x1x1024x1024.size (half_inb s k hs hk)).set := by
  unfold half slots
  rw [Memref.set_view_squeeze]
  exact View.set_slice_whole _ _

/-- A half holds the indices of its slot and part. -/
theorem mem_half (s k : ℕ) (hs : s < 3) (hk : k < 2) (i : S3x2x1024x1024.Idx) :
    i ∈ (half s k hs hk).view.set ↔ (i 0).val = s ∧ (i 1).val = k := by
  rw [half_set, Rect.mem_set_unit]
  constructor
  · intro h
    have h0 : s ≤ (i 0).val ∧ (i 0).val < s + 1 := h 0
    have h1 : k ≤ (i 1).val ∧ (i 1).val < k + 1 := h 1
    omega
  · rintro ⟨h0, h1⟩ a
    have h2 : (i 2).val < 1024 := (i 2).isLt
    have h3 : (i 3).val < 1024 := (i 3).isLt
    fin_cases a
    · show s ≤ (i 0).val ∧ (i 0).val < s + 1; omega
    · show k ≤ (i 1).val ∧ (i 1).val < k + 1; omega
    · show 0 ≤ (i 2).val ∧ (i 2).val < 0 + 1024; omega
    · show 0 ≤ (i 3).val ∧ (i 3).val < 0 + 1024; omega

/-- Half number `j`, the halves numbered slot by slot. -/
abbrev halfNo (j : Fin 6) : Memref sig .tc .vmem S1024x1024 .f32 :=
  half (j.val / 2) (j.val % 2) (by have := j.isLt; omega) (by omega)

/-- Its elements. -/
def halfSet (c : Dev nD) (j : Fin 6) : Finset (Idx (slotLoc c)) := (halfNo j).view.set

theorem mem_halfSet (c : Dev nD) (j : Fin 6) (i : S3x2x1024x1024.Idx) :
    i ∈ halfSet c j ↔ (i 0).val = j.val / 2 ∧ (i 1).val = j.val % 2 := mem_half _ _ _ _ i

theorem halfSet_disjoint (c : Dev nD) (i j : Fin 6) (h : i ≠ j) : Disjoint (halfSet c i) (halfSet c j) := by
  refine Finset.disjoint_left.mpr fun x hx hy => h (Fin.ext ?_)
  have a := (mem_halfSet c i x).mp hx
  have b := (mem_halfSet c j x).mp hy
  omega

theorem halfSet_cover (c : Dev nD) : Finset.univ.biUnion (halfSet c) = Finset.univ := by
  refine Finset.eq_univ_iff_forall.mpr fun (x : S3x2x1024x1024.Idx) => Finset.mem_biUnion.mpr ?_
  have h0 : (x 0).val < 3 := (x 0).isLt
  have h1 : (x 1).val < 2 := (x 1).isLt
  have hlt : 2 * (x 0).val + (x 1).val < 6 := by omega
  refine ⟨⟨2 * (x 0).val + (x 1).val, hlt⟩, Finset.mem_univ _, (mem_halfSet c _ x).mpr ⟨?_, ?_⟩⟩
  · show (x 0).val = (2 * (x 0).val + (x 1).val) / 2; omega
  · show (x 1).val = (2 * (x 0).val + (x 1).val) % 2; omega

/-- Half `j` held at the contents `f`. -/
def halfP (c : Dev nD) (j : Fin 6) (f : Buf (Elt F) (slotLoc c)) : sProp 𝕄 := slotLoc c ↦[halfSet c j]{fullShare} f

theorem halfP_eq (c : Dev nD) (j : Fin 6) (s k : ℕ) (hs : s < 3) (hk : k < 2) (h1 : j.val / 2 = s) (h2 : j.val % 2 = k) :
    (iprop(∃ f, halfP c j f) : sProp 𝕄) = iprop(∃ f, halfAt (F := F) c s k hs hk f) := by subst h1 h2; rfl

/-- The six halves, each at anything. -/
abbrev halves (c : Dev nD) : sProp 𝕄 :=
  iprop((∃ f, halfAt c 0 0 (by decide) (by decide) f) ∗ (∃ f, halfAt c 0 1 (by decide) (by decide) f)
    ∗ (∃ f, halfAt c 1 0 (by decide) (by decide) f) ∗ (∃ f, halfAt c 1 1 (by decide) (by decide) f)
    ∗ (∃ f, halfAt c 2 0 (by decide) (by decide) f) ∗ (∃ f, halfAt (F := F) c 2 1 (by decide) (by decide) f))

theorem halves_list (c : Dev nD) : (bigSepL [0, 1, 2, 3, 4, 5] (fun j : Fin 6 => iprop(∃ f, halfP c j f)) : sProp 𝕄) = halves (F := F) c := by
  unfold halves
  rw [← halfP_eq c 0 0 0 _ _ rfl rfl, ← halfP_eq c 1 0 1 _ _ rfl rfl, ← halfP_eq c 2 1 0 _ _ rfl rfl, ← halfP_eq c 3 1 1 _ _ rfl rfl,
    ← halfP_eq c 4 2 0 _ _ rfl rfl, ← halfP_eq c 5 2 1 _ _ rfl rfl]
  rfl

theorem halves_split (c : Dev nD) : iprop(∃ f, slotLoc c ↦{fullShare} f) ⊢ (halves c : sProp 𝕄) :=
  (Ring.slots_split_n (halfSet c) (halfSet_disjoint c) (halfSet_cover c) [0, 1, 2, 3, 4, 5] (by decide) (by decide) (halfP c)
    (fun _ _ => rfl)).trans (.of_eq (halves_list c))

theorem halves_join (c : Dev nD) : (halves c : sProp 𝕄) ⊢ iprop(∃ f, slotLoc c ↦{fullShare} f) :=
  (BIBase.Entails.of_eq (halves_list c).symm).trans
    (Ring.slots_join_n (halfSet c) (halfSet_disjoint c) (halfSet_cover c) [0, 1, 2, 3, 4, 5] (by decide) (by decide) (halfP c) (fun _ _ => rfl))

/-! ## The adapter array's share -/

/-- What is left of the adapter array's share beside the six cells' read tokens. -/
def spare (c : Dev nD) (L : BufOf (F := F) c lora) : sProp 𝕄 :=
  iprop((lora.view.loc (c : Thread nD τ) ↦{Transfers.shareDrop fullShare 13} L)
    ∗ bigSep (Finset.range 7) (fun i => lora.view.loc (c : Thread nD τ) ↦{Transfers.shareTokN fullShare i} L))

/-- The six cells' read tokens. -/
abbrev toks (c : Dev nD) (L : BufOf (F := F) c lora) : sProp 𝕄 :=
  iprop(tok c 7 Finset.univ L ∗ tok c 8 Finset.univ L ∗ tok c 9 Finset.univ L ∗ tok c 10 Finset.univ L ∗ tok c 11 Finset.univ L
    ∗ tok c 12 Finset.univ L)

theorem range_toks (Φ : ℕ → sProp 𝕄) :
    bigSep (Finset.range 13) Φ = iprop(bigSep (Finset.range 7) Φ ∗ Φ 7 ∗ Φ 8 ∗ Φ 9 ∗ Φ 10 ∗ Φ 11 ∗ Φ 12) := by
  rw [show Finset.range 13 = Finset.range 7 ∪ {7, 8, 9, 10, 11, 12} by decide, BI.bigSep_union (by decide),
    BI.bigSep_eq_bigSepL_of_eq (S := {7, 8, 9, 10, 11, 12}) [7, 8, 9, 10, 11, 12] (by decide) (by decide)]
  rfl

theorem lora_split (c : Dev nD) (L : BufOf (F := F) c lora) :
    (lora.view.loc (c : Thread nD τ) ↦{fullShare} L) ⊢ iprop(spare c L ∗ toks c L) := by
  refine (Transfers.pointsTo_toks_range fullShare 13).1.trans ?_
  rw [range_toks]
  unfold spare
  iintro ⟨Hd, Hr, Ht⟩
  isplitl [Hd Hr]
  · isplitl [Hd]; · iexact Hd
    iexact Hr
  iexact Ht

theorem lora_join (c : Dev nD) (L : BufOf (F := F) c lora) :
    iprop(spare c L ∗ toks c L) ⊢ (lora.view.loc (c : Thread nD τ) ↦{fullShare} L) := by
  refine BIBase.Entails.trans ?_ (Transfers.pointsTo_toks_range fullShare 13).2
  rw [range_toks]
  unfold spare
  iintro ⟨⟨Hd, Hr⟩, Ht⟩
  isplitl [Hd]; · iexact Hd
  isplitl [Hr]; · iexact Hr
  iexact Ht

end Cert.KernelIdeal.Hand

end
-- ==== Proof.Words.lean ====
/-
  Hand-written. The index words as the first point computes them: the gate, each adapter's rank in its row, and for each
  row and each of the two ranks the sum of the lanes that have that rank.
-/
module

public import proofs.«01_k».proof.Proof.Ring

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The adapters' numbers along each row. -/
abbrev lanes : IVec S4x8 32 := iota .tc S4x8 32 [1] iota_S4x8_d1_w32

/-- The rank of each adapter in its row: the number of adapters that beat it. -/
abbrev ranks (p : Vec F S4x1024 .f32) (q : Vec F S8x1024 .f32) (b : Vec F S1x8 .f32) : IVec S4x8 32 :=
  k0_pay7 (k0_pay2 p q b) lanes (k0_pay3 p q b) (k0_pay5 p q b) (k0_pay6 p q b) 3#32

theorem row_slice (b : Fin 4) : S4x8.Slices ![b.val, 0] S1x8 := by revert b; decide

/-- The sum of the lanes of row `b` whose rank is `k`. -/
def pick (rank : IVec S4x8 32) (b : Fin 4) (k : BitVec 32) : BitVec 32 :=
  extractAt ![0, 0, 0]
    (shapeCast S1x1x1
      (multiReductionI .add [1, 2] S1
        (shapeCast S1x1x8
          (select (cmpi .eq (extractStridedSlice S1x8 ![b.val, 0] rank (row_slice b)) (broadcast S1x8 k))
            (extractStridedSlice S1x8 ![0, 0] lanes slices_S4x8_o0_0_S1x8) (broadcast S1x8 0#32))
          shapeCasts_S1x8_S1x1x8) 0#32 reduces_S1x1x8_S1 rfl) shapeCasts_S1_S1x1x1) inpos_S1x1x1_p0_0_0

/-- The index word of row `b` and rank `k`. -/
def wordsOf (p : Vec F S4x1024 .f32) (q : Vec F S8x1024 .f32) (b : Vec F S1x8 .f32) (r k : ℕ) : BitVec 32 :=
  pick (ranks p q b) ⟨r % 4, Nat.mod_lt _ (by decide)⟩ (BitVec.ofNat 32 k)

section
variable (p : Vec F S4x1024 .f32) (q : Vec F S8x1024 .f32) (b : Vec F S1x8 .f32)
theorem wordsOf_00 : wordsOf p q b 0 0 = extractAt ![0, 0, 0] (k0_pay10 (k0_pay8 (k0_pay2 p q b) lanes (k0_pay3 p q b) (k0_pay5 p q b) (k0_pay6 p q b) 3#32) (k0_pay9 lanes) 0#32) inpos_S1x1x1_p0_0_0 := rfl
theorem wordsOf_01 : wordsOf p q b 0 1 = extractAt ![0, 0, 0] (k0_pay11 lanes (ranks p q b)) inpos_S1x1x1_p0_0_0 := rfl
theorem wordsOf_10 : wordsOf p q b 1 0 = extractAt ![0, 0, 0] (k0_pay12 lanes (ranks p q b)) inpos_S1x1x1_p0_0_0 := rfl
theorem wordsOf_11 : wordsOf p q b 1 1 = extractAt ![0, 0, 0] (k0_pay13 lanes (ranks p q b)) inpos_S1x1x1_p0_0_0 := rfl
theorem wordsOf_20 : wordsOf p q b 2 0 = extractAt ![0, 0, 0] (k0_pay14 lanes (ranks p q b)) inpos_S1x1x1_p0_0_0 := rfl
theorem wordsOf_21 : wordsOf p q b 2 1 = extractAt ![0, 0, 0] (k0_pay15 lanes (ranks p q b)) inpos_S1x1x1_p0_0_0 := rfl
theorem wordsOf_30 : wordsOf p q b 3 0 = extractAt ![0, 0, 0] (k0_pay16 lanes (ranks p q b)) inpos_S1x1x1_p0_0_0 := rfl
theorem wordsOf_31 : wordsOf p q b 3 1 = extractAt ![0, 0, 0] (k0_pay20 (k0_pay17 (ranks p q b)) (k0_pay18 lanes) k0_pay19) inpos_S1x1x1_p0_0_0 := rfl
end

end Cert.KernelIdeal.Hand

end
-- ==== Proof.Offsets.lean ====
/-
  Hand-written. The offsets that the kernel computes from its grid point, in closed form at every point.
-/
module

public import proofs.«01_k».proof.Proof.Ring
public import proofs.«01_k».proof.Proof.Gen.KernelIdeal.Launch

@[expose] public section

set_option maxRecDepth 16384

noncomputable section

namespace Cert.KernelIdeal.Hand

open Cert.KernelIdeal Cert.KernelIdeal.Gen
open Idealize.ShloMosaic

variable (t : Fin grid0.N) (v : BitVec 32)

/-- A fact that holds at each of the eight points holds at every point. -/
theorem at_points {P : Fin grid0.N → Prop} (h0 : P t0_0) (h1 : P t0_1) (h2 : P t0_2) (h3 : P t0_3) (h4 : P t0_4) (h5 : P t0_5)
    (h6 : P t0_6) (h7 : P t0_7) : P t := by
  rcases fin_N0 t with h | h | h | h | h | h | h | h <;> rw [h] <;> assumption

/-- The first step's transfers, as the first point starts them: the index word's place, the cell, the half, the source. -/
theorem off1 : k0_off1 (grid0.coords t) = ![t.val / 2, 0] :=
  at_points (P := fun t => k0_off1 (grid0.coords t) = ![t.val / 2, 0]) t rfl rfl rfl rfl rfl rfl rfl rfl
theorem off2 : k0_off2 (grid0.coords t) = ![t.val % 3, 0] :=
  at_points (P := fun t => k0_off2 (grid0.coords t) = ![t.val % 3, 0]) t rfl rfl rfl rfl rfl rfl rfl rfl
theorem off3 : k0_off3 (grid0.coords t) = ![t.val % 3, 0, 0, 0] :=
  at_points (P := fun t => k0_off3 (grid0.coords t) = ![t.val % 3, 0, 0, 0]) t rfl rfl rfl rfl rfl rfl rfl rfl
theorem off4 : k0_off4 (grid0.coords t) v = ![t.val / 2, t.val % 2 * 1024, v.toNat, 0] :=
  at_points (P := fun t => k0_off4 (grid0.coords t) v = ![t.val / 2, t.val % 2 * 1024, v.toNat, 0]) t rfl rfl rfl rfl rfl rfl rfl rfl
theorem off5 : k0_off5 (grid0.coords t) = ![t.val / 2, 1] :=
  at_points (P := fun t => k0_off5 (grid0.coords t) = ![t.val / 2, 1]) t rfl rfl rfl rfl rfl rfl rfl rfl
theorem off6 : k0_off6 (grid0.coords t) = ![t.val % 3, 1] :=
  at_points (P := fun t => k0_off6 (grid0.coords t) = ![t.val % 3, 1]) t rfl rfl rfl rfl rfl rfl rfl rfl
theorem off7 : k0_off7 (grid0.coords t) = ![t.val % 3, 1, 0, 0] :=
  at_points (P := fun t => k0_off7 (grid0.coords t) = ![t.val % 3, 1, 0, 0]) t rfl rfl rfl rfl rfl rfl rfl rfl
theorem off8 : k0_off8 (grid0.coords t) v = ![t.val / 2, t.val % 2 * 1024, v.toNat, 0] :=
  at_points (P := fun t => k0_off8 (grid0.coords t) v = ![t.val / 2, t.val % 2 * 1024, v.toNat, 0]) t rfl rfl rfl rfl rfl rfl rfl rfl
/-- The second step's transfers, as the first point starts them. -/
theorem off9 : k0_off9 (grid0.coords t) = ![(t.val + 1) / 2, 0] :=
  at_points (P := fun t => k0_off9 (grid0.coords t) = ![(t.val + 1) / 2, 0]) t rfl rfl rfl rfl rfl rfl rfl rfl
theorem off10 : k0_off10 (grid0.coords t) = ![(t.val + 1) % 3, 0] :=
  at_points (P := fun t => k0_off10 (grid0.coords t) = ![(t.val + 1) % 3, 0]) t rfl rfl rfl rfl rfl rfl rfl rfl
theorem off11 : k0_off11 (grid0.coords t) = ![(t.val + 1) % 3, 0, 0, 0] :=
  at_points (P := fun t => k0_off11 (grid0.coords t) = ![(t.val + 1) % 3, 0, 0, 0]) t rfl rfl rfl rfl rfl rfl rfl rfl
theorem off12 : k0_off12 (grid0.coords t) v = ![(t.val + 1) / 2, (t.val + 1) % 2 * 1024, v.toNat, 0] :=
  at_points (P := fun t => k0_off12 (grid0.coords t) v = ![(t.val + 1) / 2, (t.val + 1) % 2 * 1024, v.toNat, 0]) t rfl rfl rfl rfl rfl rfl rfl rfl
theorem off13 : k0_off13 (grid0.coords t) = ![(t.val + 1) / 2, 1] :=
  at_points (P := fun t => k0_off13 (grid0.coords t) = ![(t.val + 1) / 2, 1]) t rfl rfl rfl rfl rfl rfl rfl rfl
theorem off14 : k0_off14 (grid0.coords t) = ![(t.val + 1) % 3, 1] :=
  at_points (P := fun t => k0_off14 (grid0.coords t) = ![(t.val + 1) % 3, 1]) t rfl rfl rfl rfl rfl rfl rfl rfl
theorem off15 : k0_off15 (grid0.coords t) = ![(t.val + 1) % 3, 1, 0, 0] :=
  at_points (P := fun t => k0_off15 (grid0.coords t) = ![(t.val + 1) % 3, 1, 0, 0]) t rfl rfl rfl rfl rfl rfl rfl rfl
theorem off16 : k0_off16 (grid0.coords t) v = ![(t.val + 1) / 2, (t.val + 1) % 2 * 1024, v.toNat, 0] :=
  at_points (P := fun t => k0_off16 (grid0.coords t) v = ![(t.val + 1) / 2, (t.val + 1) % 2 * 1024, v.toNat, 0]) t rfl rfl rfl rfl rfl rfl rfl rfl
/-- The transfers of the step two points ahead. -/
theorem off17 : k0_off17 (grid0.coords t) = ![(t.val + 2) / 2, 0] :=
  at_points (P := fun t => k0_off17 (grid0.coords t) = ![(t.val + 2) / 2, 0]) t rfl rfl rfl rfl rfl rfl rfl rfl
theorem off18 : k0_off18 (grid0.coords t) = ![(t.val + 2) % 3, 0] :=
  at_points (P := fun t => k0_off18 (grid0.coords t) = ![(t.val + 2) % 3, 0]) t rfl rfl rfl rfl rfl rfl rfl rfl
theorem off19 : k0_off19 (grid0.coords t) = ![(t.val + 2) % 3, 0, 0, 0] :=
  at_points (P := fun t => k0_off19 (grid0.coords t) = ![(t.val + 2) % 3, 0, 0, 0]) t rfl rfl rfl rfl rfl rfl rfl rfl
theorem off20 : k0_off20 (grid0.coords t) v = ![(t.val + 2) / 2, (t.val + 2) % 2 * 1024, v.toNat, 0] :=
  at_points (P := fun t => k0_off20 (grid0.coords t) v = ![(t.val + 2) / 2, (t.val + 2) % 2 * 1024, v.toNat, 0]) t rfl rfl rfl rfl rfl rfl rfl rfl
theorem off21 : k0_off21 (grid0.coords t) = ![(t.val + 2) / 2, 1] :=
  at_points (P := fun t => k0_off21 (grid0.coords t) = ![(t.val + 2) / 2, 1]) t rfl rfl rfl rfl rfl rfl rfl rfl
theorem off22 : k0_off22 (grid0.coords t) = ![(t.val + 2) % 3, 1] :=
  at_points (P := fun t => k0_off22 (grid0.coords t) = ![(t.val + 2) % 3, 1]) t rfl rfl rfl rfl rfl rfl rfl rfl
theorem off23 : k0_off23 (grid0.coords t) = ![(t.val + 2) % 3, 1, 0, 0] :=
  at_points (P := fun t => k0_off23 (grid0.coords t) = ![(t.val + 2) % 3, 1, 0, 0]) t rfl rfl rfl rfl rfl rfl rfl rfl
theorem off24 : k0_off24 (grid0.coords t) v = ![(t.val + 2) / 2, (t.val + 2) % 2 * 1024, v.toNat, 0] :=
  at_points (P := fun t => k0_off24 (grid0.coords t) v = ![(t.val + 2) / 2, (t.val + 2) % 2 * 1024, v.toNat, 0]) t rfl rfl rfl rfl rfl rfl rfl rfl
/-- The transfers that the point waits for. -/
theorem off25 : k0_off25 (grid0.coords t) = ![t.val / 2, 0] :=
  at_points (P := fun t => k0_off25 (grid0.coords t) = ![t.val / 2, 0]) t rfl rfl rfl rfl rfl rfl rfl rfl
theorem off26 : k0_off26 (grid0.coords t) = ![t.val % 3, 0] :=
  at_points (P := fun t => k0_off26 (grid0.coords t) = ![t.val % 3, 0]) t rfl rfl rfl rfl rfl rfl rfl rfl
theorem off27 : k0_off27 (grid0.coords t) = ![t.val % 3, 0, 0, 0] :=
  at_points (P := fun t => k0_off27 (grid0.coords t) = ![t.val % 3, 0, 0, 0]) t rfl rfl rfl rfl rfl rfl rfl rfl
theorem off28 : k0_off28 (grid0.coords t) v = ![t.val / 2, t.val % 2 * 1024, v.toNat, 0] :=
  at_points (P := fun t => k0_off28 (grid0.coords t) v = ![t.val / 2, t.val % 2 * 1024, v.toNat, 0]) t rfl rfl rfl rfl rfl rfl rfl rfl
theorem off29 : k0_off29 (grid0.coords t) = ![t.val / 2, 1] :=
  at_points (P := fun t => k0_off29 (grid0.coords t) = ![t.val / 2, 1]) t rfl rfl rfl rfl rfl rfl rfl rfl
theorem off30 : k0_off30 (grid0.coords t) = ![t.val % 3, 1] :=
  at_points (P := fun t => k0_off30 (grid0.coords t) = ![t.val % 3, 1]) t rfl rfl rfl rfl rfl rfl rfl rfl
theorem off31 : k0_off31 (grid0.coords t) = ![t.val % 3, 1, 0, 0] :=
  at_points (P := fun t => k0_off31 (grid0.coords t) = ![t.val % 3, 1, 0, 0]) t rfl rfl rfl rfl rfl rfl rfl rfl
theorem off32 : k0_off32 (grid0.coords t) v = ![t.val / 2, t.val % 2 * 1024, v.toNat, 0] :=
  at_points (P := fun t => k0_off32 (grid0.coords t) v = ![t.val / 2, t.val % 2 * 1024, v.toNat, 0]) t rfl rfl rfl rfl rfl rfl rfl rfl
/-- The two halves that the point adds. -/
theorem off33 : k0_off33 (grid0.coords t) = ![t.val % 3, 0, 0, 0] :=
  at_points (P := fun t => k0_off33 (grid0.coords t) = ![t.val % 3, 0, 0, 0]) t rfl rfl rfl rfl rfl rfl rfl rfl
theorem off34 : k0_off34 (grid0.coords t) = ![t.val % 3, 1, 0, 0] :=
  at_points (P := fun t => k0_off34 (grid0.coords t) = ![t.val % 3, 1, 0, 0]) t rfl rfl rfl rfl rfl rfl rfl rfl

/-! ## The side conditions: a source block lies within the adapter array when the index word is below eight -/

theorem chk1 (hv : v.toNat < 8) : k0_chk1 (grid0.coords t) v := by
  have ht := t.isLt.trans_eq N_0
  unfold k0_chk1; intro _; rw [off4]; exact source_inb _ _ _ (by omega) (by omega) hv
theorem chk2 (hv : v.toNat < 8) : k0_chk2 (grid0.coords t) v := by
  have ht := t.isLt.trans_eq N_0
  unfold k0_chk2; intro _; rw [off8]; exact source_inb _ _ _ (by omega) (by omega) hv
theorem chk3 (ht : t.val + 1 < 8) (hv : v.toNat < 8) : k0_chk3 (grid0.coords t) v := by
  unfold k0_chk3; intro _; rw [off12]; exact source_inb _ _ _ (by omega) (by omega) hv
theorem chk4 (ht : t.val + 1 < 8) (hv : v.toNat < 8) : k0_chk4 (grid0.coords t) v := by
  unfold k0_chk4; intro _; rw [off16]; exact source_inb _ _ _ (by omega) (by omega) hv
theorem chk5 (ht : t.val + 2 < 8) (hv : v.toNat < 8) : k0_chk5 (grid0.coords t) v := by
  unfold k0_chk5; intro _; rw [off20]; exact source_inb _ _ _ (by omega) (by omega) hv
theorem chk6 (ht : t.val + 2 < 8) (hv : v.toNat < 8) : k0_chk6 (grid0.coords t) v := by
  unfold k0_chk6; intro _; rw [off24]; exact source_inb _ _ _ (by omega) (by omega) hv
theorem chk7 (hv : v.toNat < 8) : k0_chk7 (grid0.coords t) v := by
  have ht := t.isLt.trans_eq N_0
  unfold k0_chk7; rw [off28]; exact source_inb _ _ _ (by omega) (by omega) hv
theorem chk8 (hv : v.toNat < 8) : k0_chk8 (grid0.coords t) v := by
  have ht := t.isLt.trans_eq N_0
  unfold k0_chk8; rw [off32]; exact source_inb _ _ _ (by omega) (by omega) hv

end Cert.KernelIdeal.Hand

end
-- ==== Proof.Body.lean ====
/-
  Hand-written. The kernel's body run at each grid point, from the transfers in flight before it to those in flight after
  it: the two last points start nothing, the middle points start the step two ahead, the first point computes the index
  words and starts the first three steps.
-/
module

public import proofs.«01_k».proof.Proof.Offsets
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem val0 : t0_0.val = 0 := rfl
theorem val1 : t0_1.val = 1 := rfl
theorem val2 : t0_2.val = 2 := rfl
theorem val3 : t0_3.val = 3 := rfl
theorem val4 : t0_4.val = 4 := rfl
theorem val5 : t0_5.val = 5 := rfl
theorem val6 : t0_6.val = 6 := rfl
theorem val7 : t0_7.val = 7 := rfl

/-- The body at point `t` on the given staging memrefs. -/
abbrev body (t : Fin grid0.N) (arg1 : Memref sig .tc .vmem S4x1024 .f32) (harg1 : arg1.IsWhole) (arg2 : Memref sig .tc .vmem S8x1024 .f32) (harg2 : arg2.IsWhole)
    (arg3 : Memref sig .tc .vmem S1x8 .f32) (harg3 : arg3.IsWhole) (arg5 : Memref sig .tc .vmem S1x1024x1024 .f32) (harg5 : arg5.IsWhole)
    (arg6 : Memref sig .tc .vmem S1x1024x1024 .f32) (harg6 : arg6.IsWhole) :=
  cc0__combine_kernel (F := F) (grid0.coords t) arg1 harg1 arg2 harg2 arg3 harg3 lora (Memref.isWhole_whole _) arg5 harg5 arg6 harg6
    words (Memref.isWhole_whole _) slots (Memref.isWhole_whole _) cc0_scratch2

variable (c : Dev nD) (L : BufOf (F := F) c lora) (w : ℕ → ℕ → BitVec 32) (hw : ∀ b k, (w b k).toNat < 8)
  (arg1 : Memref sig .tc .vmem S4x1024 .f32) (harg1 : arg1.IsWhole) (arg2 : Memref sig .tc .vmem S8x1024 .f32) (harg2 : arg2.IsWhole)
  (arg3 : Memref sig .tc .vmem S1x8 .f32) (harg3 : arg3.IsWhole) (arg5 : Memref sig .tc .vmem S1x1024x1024 .f32) (harg5 : arg5.IsWhole)
  (arg6 : Memref sig .tc .vmem S1x1024x1024 .f32) (harg6 : arg6.IsWhole)
  (f5 : BufOf (F := F) c arg5) (f6 : BufOf (F := F) c arg6) (fw : BufOf (F := F) c words)

/-- A staging block read whole. -/
abbrev baseOf : Vec F S1x1024x1024 .f32 :=
  View.readAt (Elt F) arg5.view (Rect.unit (s := S1x1024x1024) ![0, 0, 0] S1x1024x1024.size inb_S1x1024x1024_S1x1024x1024_0_0_0).toLoadRect f5

/-- The result's staging block after point `j`. -/
abbrev outAt (j : ℕ) : sProp 𝕄 :=
  blockAt c arg6 (arg6.view.writes (Elt F) f6 [⟨Rect.unit (s := S1x1024x1024) ![0, 0, 0] S1x1024x1024.size inb_S1x1024x1024_S1x1024x1024_0_0_0,
    stored c L w hw j (baseOf c arg5 f5)⟩])

/-- The two last points: nothing is started, the point's own two transfers are awaited and their sum stored. -/
theorem run_late (t : Fin grid0.N) (ht : 6 ≤ t.val) (hr : Reads c w fw) (W : Waits sig Unit) (K : PUnit → sProp 𝕄) :
    iprop(wordsAt c fw ∗ flightStep c L w hw t.val 0 (by decide) ∗ flightStep c L w hw t.val 1 (by decide)
        ∗ blockAt c arg5 f5 ∗ blockAt c arg6 f6 ∗ owes (c : Thread nD τ) 0 W
        ∗ (iprop(wordsAt c fw ∗ freeStep c L t.val 0 (by decide) ∗ freeStep c L t.val 1 (by decide)
            ∗ blockAt c arg5 f5 ∗ outAt c L w hw arg5 arg6 f5 f6 t.val ∗ (∃ W', owes (c : Thread nD τ) 0 W')) -∗ K ⟨⟩))
      ⊢ wp frame (wpE (defs₀ (F := F)) Variants.none c none) Set.univ (body t arg1 harg1 arg2 harg2 arg3 harg3 arg5 harg5 arg6 harg6) K := by
  have h67 : t = t0_6 ∨ t = t0_7 := by
    rcases fin_N0 t with h | h | h | h | h | h | h | h <;> subst h <;> first | exact .inl rfl | exact .inr rfl | exact absurd ht (by decide)
  have r0 := hr (t.val / 2 % 4) 0 (Nat.mod_lt _ (by decide)) (by decide)
  have r1 := hr (t.val / 2 % 4) 1 (Nat.mod_lt _ (by decide)) (by decide)
  have hc7 := chk7 t (w (t.val / 2 % 4) 0) (hw _ _)
  have hc8 := chk8 t (w (t.val / 2 % 4) 1) (hw _ _)
  unfold body
  simp only [cc0__combine_kernel_eq_skeleton]
  unfold cc0__combine_kernel_skel
  simp only [k0_part8_eq_skeleton, k0_part9_eq_skeleton]
  unfold k0_part8_skel k0_part9_skel flightStep freeStep
  rcases h67 with rfl | rfl <;> (
    simp only [off25, off26, off27, off28, off29, off30, off31, off32, off33, off34, val6, val7, Nat.reduceAdd, Nat.reduceDiv, Nat.reduceMod, Nat.reduceMul] at r0 r1 hc7 hc8 ⊢
    unfold inflight free
    iintro ⟨Hw, ⟨⟨%g0, Hfl0⟩, Hr0⟩, ⟨⟨%g1, Hfl1⟩, Hr1⟩, H5, H6, HW, Hk⟩
    sl_exec (disch := decide)
    sl_step
    iapply Hk
    isplitl [Hw]; · iexact Hw
    isplitl [Hfl0 Hfl0_dst Hr0]
    · isplitl [Hfl0]; · iexact Hfl0
      isplitl [Hfl0_dst]; · iexists _; iexact Hfl0_dst
      iexact Hr0
    isplitl [Hfl1 Hfl1_dst Hr1]
    · isplitl [Hfl1]; · iexact Hfl1
      isplitl [Hfl1_dst]; · iexists _; iexact Hfl1_dst
      iexact Hr1
    isplitl [H5]; · iexact H5
    isplitl [H6]; · iexact H6
    iexists _; iexact HW)

/-- A middle point: the transfers of the step two ahead are started in the free slot, the point's own two are awaited and
    their sum stored. -/
theorem run_mid (t : Fin grid0.N) (ht : 1 ≤ t.val) (ht' : t.val ≤ 5) (hr : Reads c w fw) (W : Waits sig Unit) (K : PUnit → sProp 𝕄) :
    iprop(wordsAt c fw ∗ flightStep c L w hw t.val 0 (by decide) ∗ flightStep c L w hw t.val 1 (by decide)
        ∗ freeStep c L (t.val + 2) 0 (by decide) ∗ freeStep c L (t.val + 2) 1 (by decide)
        ∗ blockAt c arg5 f5 ∗ blockAt c arg6 f6 ∗ owes (c : Thread nD τ) 0 W
        ∗ (iprop(wordsAt c fw ∗ freeStep c L t.val 0 (by decide) ∗ freeStep c L t.val 1 (by decide)
            ∗ flightStep c L w hw (t.val + 2) 0 (by decide) ∗ flightStep c L w hw (t.val + 2) 1 (by decide)
            ∗ blockAt c arg5 f5 ∗ outAt c L w hw arg5 arg6 f5 f6 t.val ∗ (∃ W', owes (c : Thread nD τ) 0 W')) -∗ K ⟨⟩))
      ⊢ wp frame (wpE (defs₀ (F := F)) Variants.none c none) Set.univ (body t arg1 harg1 arg2 harg2 arg3 harg3 arg5 harg5 arg6 harg6) K := by
  have hmid : t = t0_1 ∨ t = t0_2 ∨ t = t0_3 ∨ t = t0_4 ∨ t = t0_5 := by
    rcases fin_N0 t with h | h | h | h | h | h | h | h <;> subst h <;> first | exact absurd ht (by decide) | exact absurd ht' (by decide) | simp
  have r0 := hr (t.val / 2 % 4) 0 (Nat.mod_lt _ (by decide)) (by decide)
  have r1 := hr (t.val / 2 % 4) 1 (Nat.mod_lt _ (by decide)) (by decide)
  have q0 := hr ((t.val + 2) / 2 % 4) 0 (Nat.mod_lt _ (by decide)) (by decide)
  have q1 := hr ((t.val + 2) / 2 % 4) 1 (Nat.mod_lt _ (by decide)) (by decide)
  have hc5 := chk5 t (w ((t.val + 2) / 2 % 4) 0) (by omega) (hw _ _)
  have hc6 := chk6 t (w ((t.val + 2) / 2 % 4) 1) (by omega) (hw _ _)
  have hc7 := chk7 t (w (t.val / 2 % 4) 0) (hw _ _)
  have hc8 := chk8 t (w (t.val / 2 % 4) 1) (hw _ _)
  clear ht ht'
  unfold body
  simp only [cc0__combine_kernel_eq_skeleton]
  unfold cc0__combine_kernel_skel
  simp only [k0_part8_eq_skeleton, k0_part9_eq_skeleton]
  unfold k0_part8_skel k0_part9_skel
  simp only [k0_part7_eq_skeleton]
  unfold k0_part7_skel flightStep freeStep
  rcases hmid with rfl | rfl | rfl | rfl | rfl <;> (
    simp only [off17, off18, off19, off20, off21, off22, off23, off24, off25, off26, off27, off28, off29, off30, off31, off32, off33, off34,
      val1, val2, val3, val4, val5, Nat.reduceAdd, Nat.reduceDiv, Nat.reduceMod, Nat.reduceMul] at r0 r1 q0 q1 hc5 hc6 hc7 hc8 ⊢
    unfold inflight free
    iintro ⟨Hw, ⟨⟨%g0, Hfl0⟩, Hr0⟩, ⟨⟨%g1, Hfl1⟩, Hr1⟩, ⟨Hc2, ⟨%g2, Hh2⟩, Ht2⟩, ⟨Hc3, ⟨%g3, Hh3⟩, Ht3⟩, H5, H6, HW, Hk⟩
    sl_exec (disch := decide)
    sl_step
    iapply Hk
    isplitl [Hw]; · iexact Hw
    isplitl [Hfl0 Hfl0_dst Hr0]
    · isplitl [Hfl0]; · iexact Hfl0
      isplitl [Hfl0_dst]; · iexists _; iexact Hfl0_dst
      iexact Hr0
    isplitl [Hfl1 Hfl1_dst Hr1]
    · isplitl [Hfl1]; · iexact Hfl1
      isplitl [Hfl1_dst]; · iexists _; iexact Hfl1_dst
      iexact Hr1
    isplitl [Hc2 Ht2]
    · isplitl [Hc2]; · iexists _; iexact Hc2
      iexact Ht2
    isplitl [Hc3 Ht3]
    · isplitl [Hc3]; · iexists _; iexact Hc3
      iexact Ht3
    isplitl [H5]; · iexact H5
    isplitl [H6]; · iexact H6
    iexists _; iexact HW)

end Cert.KernelIdeal.Hand

end
-- ==== Proof.First.lean ====
/-
  Hand-written. The kernel's body run at the first grid point: it computes the index words, starts the first three steps'
  transfers, awaits its own and stores their sum.
-/
module

public import proofs.«01_k».proof.Proof.Words
public import proofs.«01_k».proof.Proof.Body
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (L : BufOf (F := F) c lora)
  (arg1 : Memref sig .tc .vmem S4x1024 .f32) (harg1 : arg1.IsWhole) (arg2 : Memref sig .tc .vmem S8x1024 .f32) (harg2 : arg2.IsWhole)
  (arg3 : Memref sig .tc .vmem S1x8 .f32) (harg3 : arg3.IsWhole) (arg5 : Memref sig .tc .vmem S1x1024x1024 .f32) (harg5 : arg5.IsWhole)
  (arg6 : Memref sig .tc .vmem S1x1024x1024 .f32) (harg6 : arg6.IsWhole)
  (f1 : BufOf (F := F) c arg1) (f2 : BufOf (F := F) c arg2) (f3 : BufOf (F := F) c arg3)
  (f5 : BufOf (F := F) c arg5) (f6 : BufOf (F := F) c arg6) (fw : BufOf (F := F) c words)

/-- The index words of the three staging blocks that the first point reads. -/
abbrev wordsAtPoint : ℕ → ℕ → BitVec 32 :=
  wordsOf (View.readAt (Elt F) arg1.view (Rect.unit (s := S4x1024) ![0, 0] ![4, 1024] inb_S4x1024_S4x1024_0_0).toLoadRect f1)
    (View.readAt (Elt F) arg2.view (Rect.unit (s := S8x1024) ![0, 0] ![8, 1024] inb_S8x1024_S8x1024_0_0).toLoadRect f2)
    (View.readAt (Elt F) arg3.view (Rect.unit (s := S1x8) ![0, 0] ![1, 8] inb_S1x8_S1x8_0_0).toLoadRect f3)

section
omit [FloatOps F]

/-- A word stored at row `b`, column `k`. -/
abbrev wordPiece (w : ℕ → ℕ → BitVec 32) (b k : ℕ) (hb : b < 4) (hk : k < 2) : View.Piece (Elt F) S4x2 .i32 :=
  ⟨Rect.unit (s := S4x2) ![b, k] ![1, 1] (word_inb b k hb hk), fun _ => w b k⟩

/-- The eight words stored one after the other are read back. -/
theorem reads_stored (w : ℕ → ℕ → BitVec 32) : Reads c w (words.view.writes (Elt F) fw
    [wordPiece w 3 1 (by decide) (by decide), wordPiece w 3 0 (by decide) (by decide), wordPiece w 2 1 (by decide) (by decide),
      wordPiece w 2 0 (by decide) (by decide), wordPiece w 1 1 (by decide) (by decide), wordPiece w 1 0 (by decide) (by decide),
      wordPiece w 0 1 (by decide) (by decide), wordPiece w 0 0 (by decide) (by decide)]) := by
  intro b k hb hk
  have hb' : b = 0 ∨ b = 1 ∨ b = 2 ∨ b = 3 := by omega
  have hk' : k = 0 ∨ k = 1 := by omega
  refine View.readAt_writes_const_of_hit _ _ _ _ (7 - (2 * b + k)) (wordPiece (F := F) w b k hb hk).1 _ ?_ ?_
  · rcases hb' with rfl | rfl | rfl | rfl <;> rcases hk' with rfl | rfl <;> rfl
  · rcases hb' with rfl | rfl | rfl | rfl <;> rcases hk' with rfl | rfl <;> rfl

end

/-- The first point: the index words are computed and stored, the first three steps' transfers started, the point's own
    two awaited and their sum stored. -/
theorem run_first (hw : ∀ b k, (wordsAtPoint c arg1 arg2 arg3 f1 f2 f3 b k).toNat < 8) (W : Waits sig Unit) (K : PUnit → sProp 𝕄) :
    iprop(wordsAt c fw ∗ freeStep c L 0 0 (by decide) ∗ freeStep c L 0 1 (by decide)
        ∗ freeStep c L 1 0 (by decide) ∗ freeStep c L 1 1 (by decide)
        ∗ freeStep c L 2 0 (by decide) ∗ freeStep c L 2 1 (by decide)
        ∗ blockAt c arg1 f1 ∗ blockAt c arg2 f2 ∗ blockAt c arg3 f3
        ∗ blockAt c arg5 f5 ∗ blockAt c arg6 f6 ∗ owes (c : Thread nD τ) 0 W
        ∗ (iprop((∃ f, ⌜Reads c (wordsAtPoint c arg1 arg2 arg3 f1 f2 f3) f⌝ ∗ wordsAt c f) ∗ freeStep c L 0 0 (by decide) ∗ freeStep c L 0 1 (by decide)
            ∗ flightStep c L (wordsAtPoint c arg1 arg2 arg3 f1 f2 f3) hw 1 0 (by decide) ∗ flightStep c L (wordsAtPoint c arg1 arg2 arg3 f1 f2 f3) hw 1 1 (by decide)
            ∗ flightStep c L (wordsAtPoint c arg1 arg2 arg3 f1 f2 f3) hw 2 0 (by decide) ∗ flightStep c L (wordsAtPoint c arg1 arg2 arg3 f1 f2 f3) hw 2 1 (by decide)
            ∗ blockAt c arg1 f1 ∗ blockAt c arg2 f2 ∗ blockAt c arg3 f3
            ∗ blockAt c arg5 f5 ∗ outAt c L (wordsAtPoint c arg1 arg2 arg3 f1 f2 f3) hw arg5 arg6 f5 f6 0 ∗ (∃ W', owes (c : Thread nD τ) 0 W')) -∗ K ⟨⟩))
      ⊢ wp frame (wpE (defs₀ (F := F)) Variants.none c none) Set.univ (body t0_0 arg1 harg1 arg2 harg2 arg3 harg3 arg5 harg5 arg6 harg6) K := by
  have w00 := hw 0 0
  rw [wordsAtPoint, wordsOf_00] at w00
  have w01 := hw 0 1
  rw [wordsAtPoint, wordsOf_01] at w01
  have w10 := hw 1 0
  rw [wordsAtPoint, wordsOf_10] at w10
  have w11 := hw 1 1
  rw [wordsAtPoint, wordsOf_11] at w11
  unfold body
  simp only [cc0__combine_kernel_eq_skeleton]
  unfold cc0__combine_kernel_skel
  simp only [k0_part8_eq_skeleton, k0_part9_eq_skeleton]
  unfold k0_part8_skel k0_part9_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel flightStep freeStep
  simp only [off1, off2, off3, off4, off5, off6, off7, off8, off9, off10, off11, off12, off13, off14, off15, off16,
      off17, off18, off19, off20, off21, off22, off23, off24, off25, off26, off27, off28, off29, off30, off31, off32, off33, off34,
      val0, Nat.reduceAdd, Nat.reduceDiv, Nat.reduceMod, Nat.reduceMul]
  unfold inflight free
  iintro ⟨Hw, ⟨Hc0, ⟨%g0, Hh0⟩, Ht0⟩, ⟨Hc1, ⟨%g1, Hh1⟩, Ht1⟩, ⟨Hc2, ⟨%g2, Hh2⟩, Ht2⟩, ⟨Hc3, ⟨%g3, Hh3⟩, Ht3⟩,
    ⟨Hc4, ⟨%g4, Hh4⟩, Ht4⟩, ⟨Hc5, ⟨%g5, Hh5⟩, Ht5⟩, H1, H2, H3, H5, H6, HW, Hk⟩
  sl_exec (disch := first
    | (with_reducible refine chk1 t0_0 _ ?_; sl_unfold_run_names; exact w00)
    | (with_reducible refine chk2 t0_0 _ ?_; sl_unfold_run_names; exact w01)
    | (with_reducible refine chk3 t0_0 _ (by decide) ?_; sl_unfold_run_names; exact w00)
    | (with_reducible refine chk4 t0_0 _ (by decide) ?_; sl_unfold_run_names; exact w01)
    | (with_reducible refine chk5 t0_0 _ (by decide) ?_; sl_unfold_run_names; exact w10)
    | (with_reducible refine chk6 t0_0 _ (by decide) ?_; sl_unfold_run_names; exact w11)
    | (with_reducible refine chk7 t0_0 _ ?_; sl_unfold_run_names; exact w00)
    | (with_reducible refine chk8 t0_0 _ ?_; sl_unfold_run_names; exact w01)
    | decide)
  sl_step
  iapply Hk
  isplitl [Hw]
  · iexists _
    isplitr
    · ipureintro
      exact reads_stored c fw (wordsAtPoint c arg1 arg2 arg3 f1 f2 f3)
    iexact Hw
  isplitl [Hc0 Hh0 Ht0]
  · isplitl [Hc0]; · iexact Hc0
    isplitl [Hh0]; · iexists _; iexact Hh0
    iexact Ht0
  isplitl [Hc1 Hh1 Ht1]
  · isplitl [Hc1]; · iexact Hc1
    isplitl [Hh1]; · iexists _; iexact Hh1
    iexact Ht1
  isplitl [Hc2 Ht2]
  · isplitl [Hc2]; · iexists _; iexact Hc2
    iexact Ht2
  isplitl [Hc3 Ht3]
  · isplitl [Hc3]; · iexists _; iexact Hc3
    iexact Ht3
  isplitl [Hc4 Ht4]
  · isplitl [Hc4]; · iexists _; iexact Hc4
    iexact Ht4
  isplitl [Hc5 Ht5]
  · isplitl [Hc5]; · iexists _; iexact Hc5
    iexact Ht5
  isplitl [H1]; · iexact H1
  isplitl [H2]; · iexact H2
  isplitl [H3]; · iexact H3
  isplitl [H5]; · iexact H5
  isplitl [H6]; · iexact H6
  iexists _; iexact HW

end Cert.KernelIdeal.Hand

end
-- ==== Proof.Frame.lean ====
/-
  Hand-written. The launch: the ring before each grid point, the proof data of the pipeline, the body at every point and the
  run of @main, from the one fact that the index words are adapter numbers.
-/
module

public import proofs.«01_k».proof.Proof.Slots
public import proofs.«01_k».proof.Proof.First
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The ring before each point -/

section Ring
variable (c : Dev nD) (L : BufOf (F := F) c lora) (w : ℕ → ℕ → BitVec 32) (hw : ∀ b k, (w b k).toNat < 8)

/-- Three steps on, a step's slot is the same. -/
theorem freeStep_add3 (j k : ℕ) (hk : k < 2) : freeStep c L (j + 3) k hk = freeStep c L j k hk := by
  have h : ∀ (s s' n n' : ℕ) (hs hs' hn hn') (e : s = s') (e' : n = n'), free c L s k n hs hk hn = free c L s' k n' hs' hk hn' := by
    intro s s' n n' hs hs' hn hn' e e'; subst e e'; rfl
  exact h _ _ _ _ _ _ _ _ (Nat.add_mod_right j 3) (by rw [Nat.add_mod_right])

/-- Step `j`'s two halves: in flight while there is such a step, else free. -/
def stepAt (j : ℕ) : sProp 𝕄 :=
  if j < 8 then iprop(flightStep c L w hw j 0 (by decide) ∗ flightStep c L w hw j 1 (by decide))
  else iprop(freeStep c L j 0 (by decide) ∗ freeStep c L j 1 (by decide))

theorem stepAt_lt {j : ℕ} (h : j < 8) :
    stepAt c L w hw j = iprop(flightStep c L w hw j 0 (by decide) ∗ flightStep c L w hw j 1 (by decide)) := if_pos h
theorem stepAt_ge {j : ℕ} (h : ¬j < 8) :
    stepAt c L w hw j = iprop(freeStep c L j 0 (by decide) ∗ freeStep c L j 1 (by decide)) := if_neg h

/-- The ring before point `n`: before the first everything free, later the point's own step and the next in flight. -/
def ringAt (n : ℕ) : sProp 𝕄 :=
  if n = 0 then iprop((freeStep c L 0 0 (by decide) ∗ freeStep c L 0 1 (by decide)) ∗ (freeStep c L 1 0 (by decide) ∗ freeStep c L 1 1 (by decide))
    ∗ (freeStep c L 2 0 (by decide) ∗ freeStep c L 2 1 (by decide)))
  else iprop(stepAt c L w hw n ∗ stepAt c L w hw (n + 1) ∗ (freeStep c L (n + 2) 0 (by decide) ∗ freeStep c L (n + 2) 1 (by decide)))

theorem ringAt_zero : ringAt c L w hw 0 = iprop((freeStep c L 0 0 (by decide) ∗ freeStep c L 0 1 (by decide)) ∗ (freeStep c L 1 0 (by decide) ∗ freeStep c L 1 1 (by decide))
    ∗ (freeStep c L 2 0 (by decide) ∗ freeStep c L 2 1 (by decide))) := if_pos rfl
theorem ringAt_pos {n : ℕ} (h : n ≠ 0) :
    ringAt c L w hw n = iprop(stepAt c L w hw n ∗ stepAt c L w hw (n + 1) ∗ (freeStep c L (n + 2) 0 (by decide) ∗ freeStep c L (n + 2) 1 (by decide))) := if_neg h

end Ring

variable (m : (ℓ : Loc nD τ sig) → Buf (Elt F) ℓ) (ρ : Dev nD → PrngReg)

/-- The transposed adapter array and the index words of core `c`. -/
abbrev loraAt (c : Dev nD) : BufOf (F := F) c lora := V m c main_v2
def wordsAll (c : Dev nD) : ℕ → ℕ → BitVec 32 :=
  wordsOf (F := F) (iblk m c 0 t0_0) (iblk m c 1 t0_0) (iblk m c 2 t0_0)

variable (hw : ∀ c b k, (wordsAll m c b k).toNat < 8)

/-- What the body keeps between points. -/
def keep (c : Dev nD) (n : ℕ) : sProp 𝕄 :=
  iprop(ringAt c (loraAt m c) (wordsAll m c) (hw c) n ∗ (∃ f, ⌜n ≠ 0 → Reads c (wordsAll m c) f⌝ ∗ wordsAt c f)
    ∗ (∃ r, prngReg c r) ∗ spare c (loraAt m c))

/-- The block that point `t` stores. -/
def outBlock (c : Dev nD) (t : Fin cfg0.N) : Vec F S1x1024x1024 .f32 :=
  stored c (loraAt m c) (wordsAll m c) (hw c) t.val (iblk m c 3 t)

/-- The proof data: inputs left as fetched, the result's block as stored, the ring between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlock m hw c t
  Φ n := keep m hw c n.val
  q _ := fullShare
  owed _ := 0

theorem A_eq (c : Dev nD) (w : Fin cfg0.W) : (dats m hw 0 c).A w = V m c (Pipeline.arrRef spec0 w) := by
  dsimp only [dats]
theorem after0 (c : Dev nD) (t : Fin cfg0.N) : (dats m hw 0 c).after 0 t = iblk m c 0 t := by dsimp only [dats]
theorem after1 (c : Dev nD) (t : Fin cfg0.N) : (dats m hw 0 c).after 1 t = iblk m c 1 t := by dsimp only [dats]
theorem after2 (c : Dev nD) (t : Fin cfg0.N) : (dats m hw 0 c).after 2 t = iblk m c 2 t := by dsimp only [dats]
theorem after3 (c : Dev nD) (t : Fin cfg0.N) : (dats m hw 0 c).after 3 t = iblk m c 3 t := by dsimp only [dats]
theorem after4 (c : Dev nD) (t : Fin cfg0.N) : (dats m hw 0 c).after 4 t = outBlock m hw c t := by dsimp only [dats]

theorem before0 (c : Dev nD) (t : Fin cfg0.N) (d) : (dats m hw 0 c).before 0 t d = iblk m c 0 t :=
  ((dats m hw 0 c).before_in_eq_fetched 0 rfl (fun _ => rfl) (fun _ _ _ => rfl)
    (fun t => by rw [after0]; unfold Dat.blockOf iblk; rw [A_eq]) t d).trans (by unfold Dat.fetched Dat.blockOf iblk; rw [A_eq]; try rfl)
theorem before1 (c : Dev nD) (t : Fin cfg0.N) (d) : (dats m hw 0 c).before 1 t d = iblk m c 1 t :=
  ((dats m hw 0 c).before_in_eq_fetched 1 rfl (fun _ => rfl) (fun _ _ _ => rfl)
    (fun t => by rw [after1]; unfold Dat.blockOf iblk; rw [A_eq]) t d).trans (by unfold Dat.fetched Dat.blockOf iblk; rw [A_eq]; try rfl)
theorem before2 (c : Dev nD) (t : Fin cfg0.N) (d) : (dats m hw 0 c).before 2 t d = iblk m c 2 t :=
  ((dats m hw 0 c).before_in_eq_fetched 2 rfl (fun _ => rfl) (fun _ _ _ => rfl)
    (fun t => by rw [after2]; unfold Dat.blockOf iblk; rw [A_eq]) t d).trans (by unfold Dat.fetched Dat.blockOf iblk; rw [A_eq]; try rfl)
theorem before3 (c : Dev nD) (t : Fin cfg0.N) (d) : (dats m hw 0 c).before 3 t d = iblk m c 3 t :=
  ((dats m hw 0 c).before_in_eq_fetched 3 rfl (fun _ => rfl) (fun _ _ _ => rfl)
    (fun t => by rw [after3]; unfold Dat.blockOf iblk; rw [A_eq]) t d).trans (by unfold Dat.fetched Dat.blockOf iblk; rw [A_eq]; try rfl)

/-! ## The body at every point -/

section Body
variable (c : Dev nD) (t : Fin grid0.N)
  (arg1 : Memref sig .tc .vmem S4x1024 .f32) (harg1 : arg1.IsWhole) (arg2 : Memref sig .tc .vmem S8x1024 .f32) (harg2 : arg2.IsWhole)
  (arg3 : Memref sig .tc .vmem S1x8 .f32) (harg3 : arg3.IsWhole) (arg5 : Memref sig .tc .vmem S1x1024x1024 .f32) (harg5 : arg5.IsWhole)
  (arg6 : Memref sig .tc .vmem S1x1024x1024 .f32) (harg6 : arg6.IsWhole)
  (p : Vec F S4x1024 .f32) (q : Vec F S8x1024 .f32) (b : Vec F S1x8 .f32) (x : Vec F S1x1024x1024 .f32)

/-- The five staging memrefs before the body and after it. -/
abbrev stagedPre : sProp 𝕄 :=
  iprop(owns (c : Thread nD τ) arg1 fullShare p ∗ owns (c : Thread nD τ) arg2 fullShare q ∗ owns (c : Thread nD τ) arg3 fullShare b
    ∗ owns (c : Thread nD τ) arg5 fullShare x ∗ (∃ d, owns (c : Thread nD τ) arg6 fullShare d))
abbrev stagedPost (y : Vec F S1x1024x1024 .f32) : sProp 𝕄 :=
  iprop(owns (c : Thread nD τ) arg1 fullShare p ∗ owns (c : Thread nD τ) arg2 fullShare q ∗ owns (c : Thread nD τ) arg3 fullShare b
    ∗ owns (c : Thread nD τ) arg5 fullShare x ∗ owns (c : Thread nD τ) arg6 fullShare y)

/-- The result's block after the body holds the stored value. -/
theorem outAt_owns (L : BufOf (F := F) c lora) (w : ℕ → ℕ → BitVec 32) (hw' : ∀ b k, (w b k).toNat < 8) (j : ℕ)
    (f5 : BufOf (F := F) c arg5) (f6 : BufOf (F := F) c arg6) (h5 : arg5.view.read (Elt F) f5 = x) :
    outAt c L w hw' arg5 arg6 f5 f6 j ⊢ (iprop(∃ f, ⌜arg6.view.read (Elt F) f = stored c L w hw' j x⌝ ∗ blockAt c arg6 f) : sProp 𝕄) := by
  have e : baseOf c arg5 f5 = x := (View.readAt_full arg5.view f5 _).trans h5
  unfold outAt
  rw [e]
  iintro H
  iexists _
  isplitr
  swap; · iexact H
  ipureintro
  exact View.read_writes_full arg6.view f6 _ _ _

/-- The points with nothing left to start. -/
theorem body_late (ht : 6 ≤ t.val) :
    iprop(keep m hw c t.val ∗ (∃ W, owes (c : Thread nD τ) 0 W) ∗ stagedPre c arg1 arg2 arg3 arg5 arg6 p q b x)
      ⊢ wp frame (wpE (defs₀ (F := F)) Variants.none c none) Set.univ (body t arg1 harg1 arg2 harg2 arg3 harg3 arg5 harg5 arg6 harg6)
        (fun _ => iprop(keep m hw c (t.val + 1) ∗ (∃ W, owes (c : Thread nD τ) 0 W)
          ∗ stagedPost c arg1 arg2 arg3 arg5 arg6 p q b x (stored c (loraAt m c) (wordsAll m c) (hw c) t.val x))) := by
  have h8 : t.val < 8 := t.isLt.trans_eq N_0
  unfold keep
  rw [ringAt_pos _ _ _ _ (by omega), ringAt_pos _ _ _ _ (by omega), stepAt_lt _ _ _ _ h8, show t.val + 1 + 1 = t.val + 2 from rfl,
    show t.val + 1 + 2 = t.val + 3 from rfl, stepAt_ge _ _ _ _ (show ¬t.val + 2 < 8 by omega), freeStep_add3, freeStep_add3]
  unfold stagedPre stagedPost owns
  iintro ⟨⟨⟨⟨Hf0, Hf1⟩, Hn, Hfr⟩, ⟨%fw, %hr, Hw⟩, Hg, Hsp⟩, ⟨%W, HW⟩, H1, H2, H3, ⟨%f5, %h5, H5⟩, ⟨%d6, %f6, -, H6⟩⟩
  iapply (run_late c (loraAt m c) (wordsAll m c) (hw c) arg1 harg1 arg2 harg2 arg3 harg3 arg5 harg5 arg6 harg6 f5 f6 fw t ht (hr (by omega)) W _)
  isplitl [Hw]; · iexact Hw
  isplitl [Hf0]; · iexact Hf0
  isplitl [Hf1]; · iexact Hf1
  isplitl [H5]; · iexact H5
  isplitl [H6]; · iexact H6
  isplitl [HW]; · iexact HW
  iintro ⟨Hw, Hf0, Hf1, H5, H6, HW⟩
  isplitl [Hn Hfr Hw Hf0 Hf1 Hg Hsp]
  · isplitl [Hn Hfr Hf0 Hf1]
    · isplitl [Hn]; · iexact Hn
      isplitl [Hfr]; · iexact Hfr
      isplitl [Hf0]; · iexact Hf0
      iexact Hf1
    isplitl [Hw]
    · iexists fw; isplitr; · ipureintro; exact fun _ => hr (by omega)
      iexact Hw
    isplitl [Hg]; · iexact Hg
    iexact Hsp
  isplitl [HW]; · iexact HW
  isplitl [H1]; · iexact H1
  isplitl [H2]; · iexact H2
  isplitl [H3]; · iexact H3
  isplitl [H5]
  · iexists f5; isplitr; · ipureintro; exact h5
    iexact H5
  iapply (outAt_owns c arg5 arg6 x _ _ _ _ f5 f6 h5); iexact H6

/-- The middle points. -/
theorem body_mid (ht : 1 ≤ t.val) (ht' : t.val ≤ 5) :
    iprop(keep m hw c t.val ∗ (∃ W, owes (c : Thread nD τ) 0 W) ∗ stagedPre c arg1 arg2 arg3 arg5 arg6 p q b x)
      ⊢ wp frame (wpE (defs₀ (F := F)) Variants.none c none) Set.univ (body t arg1 harg1 arg2 harg2 arg3 harg3 arg5 harg5 arg6 harg6)
        (fun _ => iprop(keep m hw c (t.val + 1) ∗ (∃ W, owes (c : Thread nD τ) 0 W)
          ∗ stagedPost c arg1 arg2 arg3 arg5 arg6 p q b x (stored c (loraAt m c) (wordsAll m c) (hw c) t.val x))) := by
  unfold keep
  rw [ringAt_pos _ _ _ _ (by omega), ringAt_pos _ _ _ _ (by omega), stepAt_lt _ _ _ _ (show t.val < 8 by omega), show t.val + 1 + 1 = t.val + 2 from rfl,
    show t.val + 1 + 2 = t.val + 3 from rfl, stepAt_lt _ _ _ _ (show t.val + 2 < 8 by omega), freeStep_add3, freeStep_add3]
  unfold stagedPre stagedPost owns
  iintro ⟨⟨⟨⟨Hf0, Hf1⟩, Hn, ⟨Hr0, Hr1⟩⟩, ⟨%fw, %hr, Hw⟩, Hg, Hsp⟩, ⟨%W, HW⟩, H1, H2, H3, ⟨%f5, %h5, H5⟩, ⟨%d6, %f6, -, H6⟩⟩
  iapply (run_mid c (loraAt m c) (wordsAll m c) (hw c) arg1 harg1 arg2 harg2 arg3 harg3 arg5 harg5 arg6 harg6 f5 f6 fw t ht ht' (hr (by omega)) W _)
  isplitl [Hw]; · iexact Hw
  isplitl [Hf0]; · iexact Hf0
  isplitl [Hf1]; · iexact Hf1
  isplitl [Hr0]; · iexact Hr0
  isplitl [Hr1]; · iexact Hr1
  isplitl [H5]; · iexact H5
  isplitl [H6]; · iexact H6
  isplitl [HW]; · iexact HW
  iintro ⟨Hw, Hf0, Hf1, Hr0, Hr1, H5, H6, HW⟩
  isplitl [Hn Hr0 Hr1 Hw Hf0 Hf1 Hg Hsp]
  · isplitl [Hn Hr0 Hr1 Hf0 Hf1]
    · isplitl [Hn]; · iexact Hn
      isplitl [Hr0 Hr1]
      · isplitl [Hr0]; · iexact Hr0
        iexact Hr1
      isplitl [Hf0]; · iexact Hf0
      iexact Hf1
    isplitl [Hw]
    · iexists fw; isplitr; · ipureintro; exact fun _ => hr (by omega)
      iexact Hw
    isplitl [Hg]; · iexact Hg
    iexact Hsp
  isplitl [HW]; · iexact HW
  isplitl [H1]; · iexact H1
  isplitl [H2]; · iexact H2
  isplitl [H3]; · iexact H3
  isplitl [H5]
  · iexists f5; isplitr; · ipureintro; exact h5
    iexact H5
  iapply (outAt_owns c arg5 arg6 x _ _ _ _ f5 f6 h5); iexact H6

/-- The first point's run at index words that equal the ones it computes. -/
theorem run_first_of (L : BufOf (F := F) c lora) (w : ℕ → ℕ → BitVec 32) (hw' : ∀ b k, (w b k).toNat < 8)
    (f1 : BufOf (F := F) c arg1) (f2 : BufOf (F := F) c arg2) (f3 : BufOf (F := F) c arg3)
    (f5 : BufOf (F := F) c arg5) (f6 : BufOf (F := F) c arg6) (fw : BufOf (F := F) c words)
    (e : w = wordsAtPoint c arg1 arg2 arg3 f1 f2 f3) (W : Waits sig Unit) (K : PUnit → sProp 𝕄) :
    iprop(wordsAt c fw ∗ freeStep c L 0 0 (by decide) ∗ freeStep c L 0 1 (by decide)
        ∗ freeStep c L 1 0 (by decide) ∗ freeStep c L 1 1 (by decide)
        ∗ freeStep c L 2 0 (by decide) ∗ freeStep c L 2 1 (by decide)
        ∗ blockAt c arg1 f1 ∗ blockAt c arg2 f2 ∗ blockAt c arg3 f3
        ∗ blockAt c arg5 f5 ∗ blockAt c arg6 f6 ∗ owes (c : Thread nD τ) 0 W
        ∗ (iprop((∃ f, ⌜Reads c w f⌝ ∗ wordsAt c f) ∗ freeStep c L 0 0 (by decide) ∗ freeStep c L 0 1 (by decide)
            ∗ flightStep c L w hw' 1 0 (by decide) ∗ flightStep c L w hw' 1 1 (by decide)
            ∗ flightStep c L w hw' 2 0 (by decide) ∗ flightStep c L w hw' 2 1 (by decide)
            ∗ blockAt c arg1 f1 ∗ blockAt c arg2 f2 ∗ blockAt c arg3 f3
            ∗ blockAt c arg5 f5 ∗ outAt c L w hw' arg5 arg6 f5 f6 0 ∗ (∃ W', owes (c : Thread nD τ) 0 W')) -∗ K ⟨⟩))
      ⊢ wp frame (wpE (defs₀ (F := F)) Variants.none c none) Set.univ (body t0_0 arg1 harg1 arg2 harg2 arg3 harg3 arg5 harg5 arg6 harg6) K := by
  subst e
  exact run_first c L arg1 harg1 arg2 harg2 arg3 harg3 arg5 harg5 arg6 harg6 f1 f2 f3 f5 f6 fw hw' W K

/-- The first point. -/
theorem body_first (e : wordsAll m c = wordsOf p q b) :
    iprop(keep m hw c 0 ∗ (∃ W, owes (c : Thread nD τ) 0 W) ∗ stagedPre c arg1 arg2 arg3 arg5 arg6 p q b x)
      ⊢ wp frame (wpE (defs₀ (F := F)) Variants.none c none) Set.univ (body t0_0 arg1 harg1 arg2 harg2 arg3 harg3 arg5 harg5 arg6 harg6)
        (fun _ => iprop(keep m hw c 1 ∗ (∃ W, owes (c : Thread nD τ) 0 W)
          ∗ stagedPost c arg1 arg2 arg3 arg5 arg6 p q b x (stored c (loraAt m c) (wordsAll m c) (hw c) 0 x))) := by
  unfold keep
  rw [ringAt_zero, ringAt_pos _ _ _ _ (show 1 ≠ 0 by decide), stepAt_lt _ _ _ _ (show 1 < 8 by decide), stepAt_lt _ _ _ _ (show 1 + 1 < 8 by decide),
    show 1 + 2 = 0 + 3 from rfl, freeStep_add3, freeStep_add3]
  unfold stagedPre stagedPost owns
  iintro ⟨⟨⟨⟨Ha0, Ha1⟩, ⟨Hb0, Hb1⟩, ⟨Hc0, Hc1⟩⟩, ⟨%fw, -, Hw⟩, Hg, Hsp⟩, ⟨%W, HW⟩, ⟨%f1, %h1, H1⟩, ⟨%f2, %h2, H2⟩, ⟨%f3, %h3, H3⟩,
    ⟨%f5, %h5, H5⟩, ⟨%d6, %f6, -, H6⟩⟩
  have e1 : wordsAll m c = wordsAtPoint c arg1 arg2 arg3 f1 f2 f3 := by
    rw [e, wordsAtPoint, ← h1, ← h2, ← h3]
    rw [View.readAt_full arg1.view f1, View.readAt_full arg2.view f2, View.readAt_full arg3.view f3]
  iapply (run_first_of c arg1 harg1 arg2 harg2 arg3 harg3 arg5 harg5 arg6 harg6 (loraAt m c) (wordsAll m c) (hw c) f1 f2 f3 f5 f6 fw e1 W _)
  isplitl [Hw]; · iexact Hw
  isplitl [Ha0]; · iexact Ha0
  isplitl [Ha1]; · iexact Ha1
  isplitl [Hb0]; · iexact Hb0
  isplitl [Hb1]; · iexact Hb1
  isplitl [Hc0]; · iexact Hc0
  isplitl [Hc1]; · iexact Hc1
  isplitl [H1]; · iexact H1
  isplitl [H2]; · iexact H2
  isplitl [H3]; · iexact H3
  isplitl [H5]; · iexact H5
  isplitl [H6]; · iexact H6
  isplitl [HW]; · iexact HW
  iintro ⟨⟨%fw', %hr, Hw⟩, Ha0, Ha1, Hb0, Hb1, Hc0, Hc1, H1, H2, H3, H5, H6, HW⟩
  isplitl [Ha0 Ha1 Hb0 Hb1 Hc0 Hc1 Hw Hg Hsp]
  · isplitl [Ha0 Ha1 Hb0 Hb1 Hc0 Hc1]
    · isplitl [Hb0 Hb1]
      · isplitl [Hb0]; · iexact Hb0
        iexact Hb1
      isplitl [Hc0 Hc1]
      · isplitl [Hc0]; · iexact Hc0
        iexact Hc1
      isplitl [Ha0]; · iexact Ha0
      iexact Ha1
    isplitl [Hw]
    · iexists fw'; isplitr; · ipureintro; exact fun _ => hr
      iexact Hw
    isplitl [Hg]; · iexact Hg
    iexact Hsp
  isplitl [HW]; · iexact HW
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H5]
  · iexists f5; isplitr; · ipureintro; exact h5
    iexact H5
  iapply (outAt_owns c arg5 arg6 x _ _ _ _ f5 f6 h5); iexact H6

end Body

/-- The body's staging memrefs at point `t`. -/
abbrev st0 (t : Fin cfg0.N) : Memref sig .tc .vmem S4x1024 .f32 := win0_0.stage (cfg0.slots t 0)
abbrev st1 (t : Fin cfg0.N) : Memref sig .tc .vmem S8x1024 .f32 := win0_1.stage (cfg0.slots t 1)
abbrev st2 (t : Fin cfg0.N) : Memref sig .tc .vmem S1x8 .f32 := win0_2.stage (cfg0.slots t 2)
abbrev st3 (t : Fin cfg0.N) : Memref sig .tc .vmem S1x1024x1024 .f32 := win0_3.stage (cfg0.slots t 3)
abbrev st4 (t : Fin cfg0.N) : Memref sig .tc .vmem S1x1024x1024 .f32 := win0_4.stage (cfg0.slots t 4)

/-- Any point, on the pipeline's own staging memrefs and blocks. -/
theorem body_at (c : Dev nD) (t : Fin cfg0.N) :
    iprop(keep m hw c t.val ∗ (∃ W, owes (c : Thread nD τ) 0 W)
        ∗ stagedPre c (st0 t) (st1 t) (st2 t) (st3 t) (st4 t) (iblk m c 0 t) (iblk m c 1 t) (iblk m c 2 t) (iblk m c 3 t))
      ⊢ wp frame (wpE (defs₀ (F := F)) Variants.none c none) Set.univ (bodyAt0 t)
        (fun _ => iprop(keep m hw c (t.val + 1) ∗ (∃ W, owes (c : Thread nD τ) 0 W)
          ∗ stagedPost c (st0 t) (st1 t) (st2 t) (st3 t) (st4 t) (iblk m c 0 t) (iblk m c 1 t) (iblk m c 2 t) (iblk m c 3 t) (outBlock m hw c t))) := by
  have h8 : t.val < 8 := t.isLt.trans_eq N_0
  by_cases h0 : t.val = 0
  · obtain rfl : t = t0_0 := Fin.ext h0
    exact body_first m hw c _ _ _ _ _ _ _ _ _ _ _ _ _ _ rfl
  by_cases h6 : 6 ≤ t.val
  · exact body_late m hw c t _ _ _ _ _ _ _ _ _ _ _ _ _ _ h6
  · exact body_mid m hw c t _ _ _ _ _ _ _ _ _ _ _ _ _ _ (by omega) (by omega)

def bodyPre (c : Dev nD) (t : Fin cfg0.N) : sProp 𝕄 :=
  iprop((dats m hw 0 c).Φ t.castSucc ∗ (dats m hw 0 c).owesAt () t.castSucc
    ∗ (∃ d, owns (c : Thread nD τ) (st0 t) fullShare ((dats m hw 0 c).before 0 t d))
    ∗ (∃ d, owns (c : Thread nD τ) (st1 t) fullShare ((dats m hw 0 c).before 1 t d))
    ∗ (∃ d, owns (c : Thread nD τ) (st2 t) fullShare ((dats m hw 0 c).before 2 t d))
    ∗ (∃ d, owns (c : Thread nD τ) (st3 t) fullShare ((dats m hw 0 c).before 3 t d))
    ∗ (∃ d, owns (c : Thread nD τ) (st4 t) fullShare ((dats m hw 0 c).before 4 t d)))
def bodyPost (c : Dev nD) (t : Fin cfg0.N) : sProp 𝕄 :=
  iprop((dats m hw 0 c).Φ t.succ ∗ (dats m hw 0 c).owesAt () t.succ
    ∗ owns (c : Thread nD τ) (st0 t) fullShare ((dats m hw 0 c).after 0 t)
    ∗ owns (c : Thread nD τ) (st1 t) fullShare ((dats m hw 0 c).after 1 t)
    ∗ owns (c : Thread nD τ) (st2 t) fullShare ((dats m hw 0 c).after 2 t)
    ∗ owns (c : Thread nD τ) (st3 t) fullShare ((dats m hw 0 c).after 3 t)
    ∗ owns (c : Thread nD τ) (st4 t) fullShare ((dats m hw 0 c).after 4 t))

theorem sound_body (c : Dev nD) (t : Fin cfg0.N) :
    bodyPre m hw c t ⊢ wp frame (wpE (defs₀ (F := F)) Variants.none c none) Set.univ (bodyAt0 t) (fun _ => bodyPost m hw c t) := by
  refine BIBase.Entails.trans ?_ ((body_at m hw c t).trans (wp_mono _ _ _ fun _ => ?_))
  · unfold bodyPre Dat.owesAt Pipeline.owesWithin
    rw [show (dats m hw 0 c).owed t.castSucc = 0 from rfl, show (dats m hw 0 c).Φ t.castSucc = keep m hw c t.val from rfl]
    simp only [before0, before1, before2, before3]
    iintro ⟨Hk, ⟨%W, -, HW⟩, ⟨%d0, H0⟩, ⟨%d1, H1⟩, ⟨%d2, H2⟩, ⟨%d3, H3⟩, ⟨%d4, H4⟩⟩
    isplitl [Hk]; · iexact Hk
    isplitl [HW]; · iexists W; iexact HW
    isplitl [H0]; · iexact H0
    isplitl [H1]; · iexact H1
    isplitl [H2]; · iexact H2
    isplitl [H3]; · iexact H3
    iexists _; iexact H4
  · unfold bodyPost Dat.owesAt Pipeline.owesWithin
    rw [show (dats m hw 0 c).owed t.succ = 0 from rfl, show (dats m hw 0 c).Φ t.succ = keep m hw c (t.val + 1) from rfl,
      after0, after1, after2, after3, after4]
    iintro ⟨Hk, ⟨%W, HW⟩, Hs⟩
    isplitl [Hk]; · iexact Hk
    isplitl [HW]
    · iexists W; isplitr; · ipureintro; exact fun _ _ => Or.inl trivial
      iexact HW
    iexact Hs

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hw 0 c) (defs₀ (F := F)) Variants.none () Set.univ := fun t => by
  rw [bigSep_W0, bigSep_W0, defs₀_row]
  exact triple_restated (sound_body m hw c t) rfl .rfl fun _ => .rfl

end Cert.KernelIdeal.Hand

end
-- ==== Proof.Run.lean ====
/-
  Hand-written. The run of @main: the launch's entry state cut into the ring and put together again, and the frame.
-/
module

public import proofs.«01_k».proof.Proof.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
  (hw : ∀ c b k, (wordsAll m c b k).toNat < 8)

/-- The kernel's own cells, and the buffer that it reads outside its windows. -/
abbrev osem0 : Fin 6 → SemLoc sig := fun j =>
  (![SemLoc.dma 7, SemLoc.dma 8, SemLoc.dma 9, SemLoc.dma 10, SemLoc.dma 11, SemLoc.dma 12] : Fin 6 → SemLoc sig) j
theorem ownSemFacts0 : Pipeline.OwnSemFacts spec0 osem0 := by decide
abbrev H0 : Finset (Ref sig .tc) := {main_v2}
theorem H0_sub : H0 ⊆ Pipeline.restRefs sig spec0 := by decide

theorem ownSems00_eq (c : Dev nD) : (Pipeline.ownSems0 (Ix := Unit) (Name := ℕ) (U := Pipeline.UD sig nD τ) (Lvl := ℕ) (Val := Elt F) (τ := τ) osem0 c : sProp 𝕄)
    = iprop(semVal ((c : Thread nD τ), cell 7 (by decide)) 0 ∗ semVal ((c : Thread nD τ), cell 8 (by decide)) 0
      ∗ semVal ((c : Thread nD τ), cell 9 (by decide)) 0 ∗ semVal ((c : Thread nD τ), cell 10 (by decide)) 0
      ∗ semVal ((c : Thread nD τ), cell 11 (by decide)) 0 ∗ semVal ((c : Thread nD τ), cell 12 (by decide)) 0) := by
  rw [Pipeline.ownSems0_eq_of_list c osem0 [0, 1, 2, 3, 4, 5] (by decide) (by decide)]; rfl

theorem hbmPts0_eq (c : Dev nD) :
    (bigSep H0 (fun b => ((c.tc : Thread nD τ).loc b) ↦{fullShare} V m c b) : sProp 𝕄) = (lora.view.loc (c : Thread nD τ) ↦{fullShare} loraAt m c) := by
  rw [BI.bigSep_eq_bigSepL_of_eq [main_v2] (by decide) (by decide)]; rfl

/-- All six halves free, as the first point finds them. -/
abbrev allFree (c : Dev nD) (L : BufOf (F := F) c lora) : sProp 𝕄 :=
  iprop((freeStep c L 0 0 (by decide) ∗ freeStep c L 0 1 (by decide)) ∗ (freeStep c L 1 0 (by decide) ∗ freeStep c L 1 1 (by decide))
    ∗ (freeStep c L 2 0 (by decide) ∗ freeStep c L 2 1 (by decide)))

/-- The six cells at zero, the slot buffer and the adapter array: the six halves free, and the rest of the adapters' share. -/
theorem allFree_intro (c : Dev nD) (L : BufOf (F := F) c lora) :
    iprop((∃ f, slotLoc c ↦{fullShare} f)
      ∗ (Pipeline.ownSems0 (Ix := Unit) (Name := ℕ) (U := Pipeline.UD sig nD τ) (Lvl := ℕ) (Val := Elt F) (τ := τ) osem0 c)
      ∗ (lora.view.loc (c : Thread nD τ) ↦{fullShare} L)) ⊢ (iprop(allFree c L ∗ spare c L) : sProp 𝕄) := by
  refine (BIClass.sep_mono (halves_split c) (BIClass.sep_mono (.of_eq (ownSems00_eq c)) (lora_split c L))).trans ?_
  iintro ⟨⟨H0, H1, H2, H3, H4, H5⟩, ⟨S0, S1, S2, S3, S4, S5⟩, ⟨Hs, T0, T1, T2, T3, T4, T5⟩⟩
  isplitl [H0 H1 H2 H3 H4 H5 S0 S1 S2 S3 S4 S5 T0 T1 T2 T3 T4 T5]
  · isplitl [H0 H1 S0 S1 T0 T1]
    · isplitl [H0 S0 T0]
      · isplitl [S0]; · iexact S0
        isplitl [H0]; · iexact H0
        iexact T0
      isplitl [S1]; · iexact S1
      isplitl [H1]; · iexact H1
      iexact T1
    isplitl [H2 H3 S2 S3 T2 T3]
    · isplitl [H2 S2 T2]
      · isplitl [S2]; · iexact S2
        isplitl [H2]; · iexact H2
        iexact T2
      isplitl [S3]; · iexact S3
      isplitl [H3]; · iexact H3
      iexact T3
    isplitl [H4 S4 T4]
    · isplitl [S4]; · iexact S4
      isplitl [H4]; · iexact H4
      iexact T4
    isplitl [S5]; · iexact S5
    isplitl [H5]; · iexact H5
    iexact T5
  iexact Hs

/-- And back. -/
theorem allFree_elim (c : Dev nD) (L : BufOf (F := F) c lora) :
    (iprop(allFree c L ∗ spare c L) : sProp 𝕄) ⊢ iprop((∃ f, slotLoc c ↦{fullShare} f)
      ∗ (Pipeline.ownSems0 (Ix := Unit) (Name := ℕ) (U := Pipeline.UD sig nD τ) (Lvl := ℕ) (Val := Elt F) (τ := τ) osem0 c)
      ∗ (lora.view.loc (c : Thread nD τ) ↦{fullShare} L)) := by
  refine BIBase.Entails.trans ?_ (BIClass.sep_mono (halves_join c) (BIClass.sep_mono (.of_eq (ownSems00_eq c).symm) (lora_join c L)))
  iintro ⟨⟨⟨⟨S0, H0, T0⟩, ⟨S1, H1, T1⟩⟩, ⟨⟨S2, H2, T2⟩, ⟨S3, H3, T3⟩⟩, ⟨⟨S4, H4, T4⟩, ⟨S5, H5, T5⟩⟩⟩, Hs⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hs]; · iexact Hs
  isplitl [T0]; · iexact T0
  isplitl [T1]; · iexact T1
  isplitl [T2]; · iexact T2
  isplitl [T3]; · iexact T3
  isplitl [T4]; · iexact T4
  iexact T5

/-- After the last point the ring is free again. -/
theorem ringAt_end (c : Dev nD) (L : BufOf (F := F) c lora) (w : ℕ → ℕ → BitVec 32) (hw' : ∀ b k, (w b k).toNat < 8) :
    ringAt c L w hw' 8 ⊢ allFree c L := by
  rw [ringAt_pos _ _ _ _ (show 8 ≠ 0 by decide), stepAt_ge _ _ _ _ (show ¬8 < 8 by decide), stepAt_ge _ _ _ _ (show ¬8 + 1 < 8 by decide),
    show 8 + 1 = 0 + 3 + 3 + 3 from rfl, show 8 + 2 = 1 + 3 + 3 + 3 from rfl, show 8 = 2 + 3 + 3 from rfl]
  simp only [freeStep_add3]
  iintro ⟨Hc, Ha, Hb⟩
  isplitl [Ha]; · iexact Ha
  isplitl [Hb]; · iexact Hb
  iexact Hc

theorem keep_intro (c : Dev nD) : Pipeline.ΦD osem0 spec0 H0 (V m) c ⊢ keep m hw c 0 := by
  rw [Pipeline.ΦD_eq, scopedRest0_eq, hbmPts0_eq]
  unfold keep
  rw [ringAt_zero]
  iintro ⟨⟨Hs, ⟨%fw, Hw⟩⟩, Hg, Ho, HL⟩
  ihave H := (allFree_intro c (loraAt m c)) $$ [Hs Ho HL]
  · isplitl [Hs]; · iexact Hs
    isplitl [Ho]; · iexact Ho
    iexact HL
  icases H with ⟨Hf, Hsp⟩
  isplitl [Hf]; · iexact Hf
  isplitl [Hw]
  · iexists fw; isplitr; · ipureintro; exact fun h => absurd rfl h
    iexact Hw
  isplitl [Hg]; · iexact Hg
  iexact Hsp

theorem keep_elim (c : Dev nD) : keep m hw c 8 ⊢ Pipeline.ΦD osem0 spec0 H0 (V m) c := by
  rw [Pipeline.ΦD_eq, scopedRest0_eq, hbmPts0_eq]
  unfold keep
  iintro ⟨Hr, ⟨%fw, -, Hw⟩, Hg, Hsp⟩
  ihave H := (ringAt_end c (loraAt m c) (wordsAll m c) (hw c)) $$ Hr
  ihave H := (allFree_elim c (loraAt m c)) $$ [H Hsp]
  · isplitl [H]; · iexact H
    iexact Hsp
  icases H with ⟨Hs, Ho, HL⟩
  isplitl [Hs Hw]
  · isplitl [Hs]; · iexact Hs
    iexists fw; iexact Hw
  isplitl [Hg]; · iexact Hg
  isplitl [Ho]; · iexact Ho
  iexact HL

set_option maxHeartbeats 800000 in
/-- @main up to the region. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
theorem run_main : θ_run defs (onTc (τ := τ) (main (F := F))) (s₀ m ρ)
    (fun r => Pipeline.FramePost cfgs (dats m hw) 0 (V m) r ∧ r.2.sem = fun _ => 0) :=
  Pipeline.θ_run_frame_dma (Q' := _) cfgs (dats m hw) (0 : Fin 1) launch0 osem0 defs₀ Variants.none ownSemFacts0 H0 H0_sub m ρ main
    (hbody := fun c => (body_obligation m hw c).loose) (hshare := fun c => (dats m hw 0 c).share_full fun _ => rfl)
    (howed := fun _ _ => rfl) (V := V m) (hmain := main_prefix m Variants.none) (hA := A_eq m hw)
    (hin := fun c => keep_intro m hw c) (hout := fun c => keep_elim m hw c) (hQ' := fun _ h => h)

/-- The run ends with the result array as the pipeline's last write-back leaves it, the arguments as launched and every
    semaphore at zero. -/
theorem run_result : θ_run defs (onTc (τ := τ) (main (F := F))) ⟨m, fun _ => 0, ρ⟩ (fun r => (∀ c : Dev nD,
      r.2.mem ((c.tc : Thread nD τ).loc main_v4) = (dats m hw 0 c).arrAt 4 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c).1 4,
      ((h.1 c).2 main_arg0 (Pipeline.mem_restRefs_of main_arg0 (by decide) (by decide))).trans (V_main_arg0 m c),
      ((h.1 c).1 3).trans (((dats m hw 0 c).arrAt_in 3 rfl _).trans ((A_eq m hw c 3).trans (V_main_arg1 m c))),
      ((h.1 c).2 main_arg2 (Pipeline.mem_restRefs_of main_arg2 (by decide) (by decide))).trans (V_main_arg2 m c),
      ((h.1 c).1 1).trans (((dats m hw 0 c).arrAt_in 1 rfl _).trans ((A_eq m hw c 1).trans (V_main_arg3 m c))),
      ((h.1 c).2 main_arg4 (Pipeline.mem_restRefs_of main_arg4 (by decide) (by decide))).trans (V_main_arg4 m c)⟩, h.2⟩)
    (run_main m ρ hw)

end Cert.KernelIdeal.Hand

end
-- ==== Proof.Rank.lean ====
/-
  Hand-written. Ranks and sorted positions: over a linear order, the stable sort that puts the greater first sends the position
  of rank `r` to place `r`, the rank of a position being the number of positions that beat it.
-/
module

public import Idealize.ShloMosaic.Lib.SortPrefix
public import Idealize.ShloMosaic.Lib.SortFacts

@[expose] public section

noncomputable section

namespace Cert.KernelIdeal.Hand

open Idealize.ShloMosaic

/-- Two orders that agree on every pair of a list, the later element against the earlier, sort the list alike. -/
theorem stableSort_eq_of_pairwise {ι : Type} (R B : ι → ι → Bool) :
    ∀ l : List ι, l.Pairwise (fun a b => R b a = B b a) → stableSort R l = stableSort B l
  | [], _ => rfl
  | a :: l, h => by
    have hc : ∀ s : List ι, (∀ b ∈ s, R b a = B b a) → insertBefore R a s = insertBefore B a s := by
      intro s
      induction s with
      | nil => intro _; rfl
      | cons b s ih =>
        intro hs
        unfold insertBefore
        rw [hs b (List.mem_cons_self ..), ih fun x hx => hs x (List.mem_cons_of_mem _ hx)]
    rw [List.pairwise_cons] at h
    unfold stableSort
    rw [stableSort_eq_of_pairwise R B l h.2]
    exact hc _ fun b hb => h.1 b ((perm_stableSort B l).mem_iff.mp hb)

section
variable {n : ℕ} {α : Type} [LinearOrder α] (g : Fin n → α)

/-- Position `j` beats position `i`: its value is greater, or equal and it comes first. -/
def beats (j i : Fin n) : Bool := decide (g i < g j) || (decide (g j = g i) && decide (j < i))

theorem beats_total : StrictTotalBefore (beats g) :=
  StrictTotalBefore.of_key_then_position (fun a b => decide (b < a)) g (fun a => by simp)
    (fun a b c h h' => by simp only [decide_eq_true_eq] at h h' ⊢; exact h'.trans h)
    (fun a b => by simp only [decide_eq_true_eq]; rcases lt_trichotomy a b with h | h | h <;> simp [h])

/-- The number of positions that beat `i`. -/
def rankOf (i : Fin n) : ℕ := (Finset.univ.filter fun j => beats g j i = true).card

/-- The position that the stable sort, greater first, puts at place `k`. -/
def place (k : Fin n) : Fin n := sortedFrom (fun j i => decide (g i < g j)) k

theorem place_eq (k : Fin n) : place g k = sortedFrom (beats g) k := by
  have e : sortPositions n (fun j i => decide (g i < g j)) = sortPositions n (beats g) := by
    refine stableSort_eq_of_pairwise _ _ _ ((List.pairwise_lt_finRange n).imp fun {a b} h => ?_)
    unfold beats
    rw [show decide (b < a) = false from decide_eq_false (not_lt.mpr h.le), Bool.and_false, Bool.or_false]
  unfold place sortedFrom
  rw [List.get_of_eq e]
  rfl

theorem place_injective : Function.Injective (place g) := sortedFrom_injective _
theorem place_surjective : Function.Surjective (place g) := sortedFrom_surjective _

/-- An earlier place's position beats a later place's, and not the other way round. -/
theorem beats_place (p q : Fin n) : beats g (place g p) (place g q) = true ↔ p < q := by
  have hB := beats_total g
  have hno : ∀ i j : Fin n, i < j → beats g (place g j) (place g i) = false := fun i j h => by
    rw [place_eq, place_eq]
    refine sortedFrom_noInversion (beats g) (beats g) (fun a b hab => ?_) (fun _ _ h => h) (fun a b c hab hbc => ?_) i j h
    · by_contra hn
      rw [Bool.not_eq_false] at hn
      exact absurd (hB.trans _ _ _ hab hn) (by rw [hB.irrefl]; decide)
    · by_contra hn
      rw [Bool.not_eq_false] at hn
      rcases eq_or_ne b c with rfl | hne
      · rw [hab] at hn; exact absurd hn (by decide)
      · rcases hB.total _ _ hne with h1 | h1
        · rw [hbc] at h1; exact absurd h1 (by decide)
        · rw [hB.trans _ _ _ hn h1] at hab; exact absurd hab (by decide)
  constructor
  · intro h
    by_contra hn
    rcases (not_lt.mp hn).eq_or_lt with rfl | hlt
    · rw [hB.irrefl] at h; exact absurd h (by decide)
    · rw [hno _ _ hlt] at h; exact absurd h (by decide)
  · intro h
    rcases hB.total _ _ ((place_injective g).ne h.ne) with h1 | h1
    · exact h1
    · rw [hno _ _ h] at h1; exact absurd h1 (by decide)

/-- The position put at place `k` has rank `k`. -/
theorem rankOf_place (k : Fin n) : rankOf g (place g k) = k.val := by
  have e : (Finset.univ.filter fun j => beats g j (place g k) = true) = (Finset.Iio k).image (place g) := by
    ext j
    obtain ⟨p, rfl⟩ := place_surjective g j
    rw [Finset.mem_filter, beats_place, Finset.mem_image]
    constructor
    · rintro ⟨-, h⟩; exact ⟨p, Finset.mem_Iio.mpr h, rfl⟩
    · rintro ⟨q, h, hq⟩
      rw [← place_injective g hq]
      exact ⟨Finset.mem_univ _, Finset.mem_Iio.mp h⟩
  rw [rankOf, e, Finset.card_image_of_injective _ (place_injective g), Fin.card_Iio]

/-- A position has rank `k` exactly if it is the one put at place `k`. -/
theorem rankOf_eq_iff (i k : Fin n) : rankOf g i = k.val ↔ i = place g k := by
  obtain ⟨p, rfl⟩ := place_surjective g i
  rw [rankOf_place]
  exact ⟨fun h => congrArg _ (Fin.ext h), fun h => congrArg _ (place_injective g h)⟩

theorem rankOf_lt (i : Fin n) : rankOf g i < n := by
  obtain ⟨p, rfl⟩ := place_surjective g i
  rw [rankOf_place]; exact p.isLt

end

end Cert.KernelIdeal.Hand

end
-- ==== Proof.Index.lean ====
/-
  Hand-written. The index words over the extended reals: the word of row `r` and rank `k` is the adapter that the stable sort of
  the row's gates, greater first, puts at place `k`; so it is an adapter's number.
-/
module

public import proofs.«01_k».proof.Proof.Words
public import proofs.«01_k».proof.Proof.Rank
public import Idealize.ShloMosaic.Lib.ValueLayout
public import Idealize.ShloMosaic.Lib.KernelVsHost
public import Idealize.ShloMosaic.Lib.WordSum

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx

section
variable {F : FTy → Type} [FloatOps F]

theorem column_slice (j : Fin 8) : S4x8.Slices ![0, j.val] S4x1 := by revert j; decide

/-- Adapter `j`'s gate of each row, along the row. -/
def column (G : FVec F S4x8 .f32) (j : Fin 8) : FVec F S4x8 .f32 :=
  broadcastTo S4x8 (extractStridedSlice S4x1 ![0, j.val] G (column_slice j)) broadcasts_S4x1_S4x8

/-- One where adapter `j` beats the lane's adapter, else zero. -/
def beatsWord (G : FVec F S4x8 .f32) (j : Fin 8) : IVec S4x8 32 :=
  extui 32 (ori (cmpf .ogt (column G j) G) (andi (cmpf .oeq (column G j) G) (cmpi .sgt lanes (broadcast S4x8 (BitVec.ofNat 32 j.val))))) natLt_1_32

/-- The ranks are the sums of these words. -/
theorem ranks_eq (p : Vec F S4x1024 .f32) (q : Vec F S8x1024 .f32) (b : Vec F S1x8 .f32) :
    ranks p q b = addi (addi (addi (addi (addi (addi (addi (addi (broadcast S4x8 0#32) (beatsWord (k0_pay2 p q b) 0)) (beatsWord (k0_pay2 p q b) 1))
      (beatsWord (k0_pay2 p q b) 2)) (beatsWord (k0_pay2 p q b) 3)) (beatsWord (k0_pay2 p q b) 4)) (beatsWord (k0_pay2 p q b) 5))
      (beatsWord (k0_pay2 p q b) 6)) (beatsWord (k0_pay2 p q b) 7) := rfl

theorem column_apply (G : FVec F S4x8 .f32) (j : Fin 8) (r : Fin 4) (i : Fin 8) : column G j (ix2 r i) = G (ix2 r j) := by
  unfold column
  rw [broadcastTo_apply _ _ _ (ix2 r (0 : Fin 1)) (fun a => by match a with | ⟨0, _⟩ => rfl | ⟨1, _⟩ => rfl)]
  exact slice2_axis1_apply j.val G (column_slice j) r 0 j rfl

theorem lanes_apply (r : Fin 4) (i : Fin 8) : lanes (ix2 r i) = BitVec.ofNat 32 i.val := by
  revert r i; decide

end

/-- Row `r` of a block of gates. -/
abbrev row (G : FVec Ideal S4x8 .f32) (r : Fin 4) : Fin 8 → EReal := fun e => G (ix2 r e)

theorem beatsWord_apply (G : FVec Ideal S4x8 .f32) (j : Fin 8) (r : Fin 4) (i : Fin 8) :
    beatsWord G j (ix2 r i) = BitVec.ofNat 32 (if beats (row G r) j i = true then 1 else 0) := by
  have e1 : cmpf .ogt (column G j) G (ix2 r i) = BitVec.ofBool (decide (row G r i < row G r j)) := by
    show Ideal.cmp .ogt (column G j (ix2 r i)) (G (ix2 r i)) = _
    rw [column_apply]; rfl
  have e2 : cmpf .oeq (column G j) G (ix2 r i) = BitVec.ofBool (decide (row G r j = row G r i)) := by
    show Ideal.cmp .oeq (column G j (ix2 r i)) (G (ix2 r i)) = _
    rw [column_apply]; rfl
  have e3 : cmpi .sgt lanes (broadcast S4x8 (BitVec.ofNat 32 j.val)) (ix2 r i) = BitVec.ofBool (decide (j < i)) := by
    show IntOp.cmpi .sgt (lanes (ix2 r i)) (BitVec.ofNat 32 j.val) = _
    rw [lanes_apply]
    clear e1 e2
    revert i j; decide
  show BitVec.setWidth 32 (IntOp.ori (cmpf .ogt (column G j) G (ix2 r i)) (IntOp.andi (cmpf .oeq (column G j) G (ix2 r i))
    (cmpi .sgt lanes (broadcast S4x8 (BitVec.ofNat 32 j.val)) (ix2 r i)))) = _
  rw [e1, e2, e3]
  unfold beats
  generalize decide (row G r i < row G r j) = x
  generalize decide (row G r j = row G r i) = y
  generalize decide (j < i) = z
  cases x <;> cases y <;> cases z <;> rfl

/-- The rank word of adapter `i` in row `r` is its rank. -/
theorem ranks_apply (p : Vec Ideal S4x1024 .f32) (q : Vec Ideal S8x1024 .f32) (b : Vec Ideal S1x8 .f32) (r : Fin 4) (i : Fin 8) :
    ranks p q b (ix2 r i) = BitVec.ofNat 32 (rankOf (row (k0_pay2 p q b) r) i) := by
  rw [ranks_eq]
  generalize k0_pay2 p q b = G
  show 0#32 + beatsWord G 0 (ix2 r i) + beatsWord G 1 (ix2 r i) + beatsWord G 2 (ix2 r i) + beatsWord G 3 (ix2 r i)
    + beatsWord G 4 (ix2 r i) + beatsWord G 5 (ix2 r i) + beatsWord G 6 (ix2 r i) + beatsWord G 7 (ix2 r i) = _
  simp only [beatsWord_apply, ← BitVec.ofNat_add]
  rw [rankOf, Finset.card_filter, Fin.sum_univ_eight, Nat.zero_add]

/-- The source lanes of the sum, and what each adds. -/
theorem pick_lane (rank : IVec S4x8 32) (r : Fin 4) (k : BitVec 32) (e : Fin 8) :
    shapeCast S1x1x8 (select (cmpi .eq (extractStridedSlice S1x8 ![r.val, 0] rank (row_slice r)) (broadcast S1x8 k))
        (extractStridedSlice S1x8 ![0, 0] lanes slices_S4x8_o0_0_S1x8) (broadcast S1x8 0#32)) shapeCasts_S1x8_S1x1x8 (ix3 (0 : Fin 1) (0 : Fin 1) e)
      = if rank (ix2 r e) = k then BitVec.ofNat 32 e.val else 0#32 := by
  rw [shapeCast_apply _ _ _ (ix2 (0 : Fin 1) e) (by revert e; decide)]
  have e1 : extractStridedSlice S1x8 ![r.val, 0] rank (row_slice r) (ix2 (0 : Fin 1) e) = rank (ix2 r e) :=
    slice2_axis0_apply r.val rank (row_slice r) (0 : Fin 1) e r rfl
  have e2 : extractStridedSlice S1x8 ![0, 0] lanes slices_S4x8_o0_0_S1x8 (ix2 (0 : Fin 1) e) = BitVec.ofNat 32 e.val :=
    (slice2_axis0_apply 0 lanes slices_S4x8_o0_0_S1x8 (0 : Fin 1) e 0 rfl).trans (lanes_apply 0 e)
  show Scalar.select (IntOp.cmpi .eq (extractStridedSlice S1x8 ![r.val, 0] rank (row_slice r) (ix2 (0 : Fin 1) e)) k)
    (extractStridedSlice S1x8 ![0, 0] lanes slices_S4x8_o0_0_S1x8 (ix2 (0 : Fin 1) e)) 0#32 = _
  rw [e1, e2]
  unfold Scalar.select
  exact if_congr (by show BitVec.ofBool (rank (ix2 r e) == k) = 1 ↔ _; cases h : rank (ix2 r e) == k <;> simp_all) rfl rfl

/-- The sum over the lanes. -/
theorem pick_sum (rank : IVec S4x8 32) (r : Fin 4) (k : BitVec 32) :
    pick rank r k = ∑ e : Fin 8, if rank (ix2 r e) = k then BitVec.ofNat 32 e.val else 0#32 := by
  unfold pick extractAt
  rw [shapeCast_apply _ _ _ (ix1 (0 : Fin 1)) (by decide)]
  show reduceFold reduces_S1x1x8_S1 (· + ·) (0#32 : BitVec 32) _ (ix1 (0 : Fin 1)) = _
  rw [reduceFold_add_eq_sum, show (0#32 : BitVec 32) = 0 from rfl, zero_add,
    Finset.filter_true_of_mem (fun i _ => funext fun a => by match a with | ⟨0, _⟩ => exact Subsingleton.elim (α := Fin 1) _ _)]
  refine (Fintype.sum_bijective (fun e : Fin 8 => (ix3 (0 : Fin 1) (0 : Fin 1) e : S1x1x8.Idx)) ⟨fun e e' h => ?_, fun i => ⟨i 2, ?_⟩⟩ _ _
    fun e => (pick_lane rank r k e).symm).symm
  · exact congrFun h 2
  · funext a
    match a with
    | ⟨0, _⟩ => exact Subsingleton.elim (α := Fin 1) _ _
    | ⟨1, _⟩ => exact Subsingleton.elim (α := Fin 1) _ _
    | ⟨2, _⟩ => rfl

/-- Where one lane alone has the rank `k`, the sum is that lane. -/
theorem pick_eq (rank : IVec S4x8 32) (r : Fin 4) (k : BitVec 32) (e : Fin 8) (he : ∀ e', rank (ix2 r e') = k ↔ e' = e) :
    pick rank r k = BitVec.ofNat 32 e.val := by
  refine (pick_sum rank r k).trans ((Finset.sum_eq_single e (fun e' _ h => ?_) fun h => absurd (Finset.mem_univ _) h).trans
    (if_pos ((he e).mpr rfl)))
  exact if_neg fun h' => h ((he e').mp h')

/-- Where none has, it is zero. -/
theorem pick_zero (rank : IVec S4x8 32) (r : Fin 4) (k : BitVec 32) (he : ∀ e', rank (ix2 r e') ≠ k) :
    pick rank r k = 0#32 := by
  rw [pick_sum]
  exact Finset.sum_eq_zero fun e _ => if_neg (he e)

/-- The word of row `r` and rank `k` is the adapter at place `k`. -/
theorem wordsOf_eq (p : Vec Ideal S4x1024 .f32) (q : Vec Ideal S8x1024 .f32) (b : Vec Ideal S1x8 .f32) (r : Fin 4) (k : Fin 8) :
    wordsOf p q b r.val k.val = BitVec.ofNat 32 (place (row (k0_pay2 p q b) r) k).val := by
  unfold wordsOf
  rw [show (⟨r.val % 4, Nat.mod_lt _ (by decide)⟩ : Fin 4) = r from Fin.ext (Nat.mod_eq_of_lt r.isLt)]
  refine pick_eq _ _ _ _ fun e' => ?_
  rw [ranks_apply, ← rankOf_eq_iff]
  have h := rankOf_lt (row (k0_pay2 p q b) r) e'
  have h' := k.isLt
  constructor
  · intro h2
    have h3 := congrArg BitVec.toNat h2
    rw [BitVec.toNat_ofNat, BitVec.toNat_ofNat, Nat.mod_eq_of_lt (by omega), Nat.mod_eq_of_lt (by omega)] at h3
    exact h3
  · intro h2; rw [h2]

/-- Every index word is below eight. -/
theorem wordsOf_lt (p : Vec Ideal S4x1024 .f32) (q : Vec Ideal S8x1024 .f32) (b : Vec Ideal S1x8 .f32) (r k : ℕ) :
    (wordsOf p q b r k).toNat < 8 := by
  have hk : wordsOf p q b r k = wordsOf p q b (r % 4) ((BitVec.ofNat 32 k).toNat) := by
    unfold wordsOf
    rw [BitVec.ofNat_toNat, BitVec.setWidth_eq]
    congr 1
    exact Fin.ext (Nat.mod_mod _ _).symm
  rw [hk]
  by_cases h : (BitVec.ofNat 32 k).toNat < 8
  · rw [wordsOf_eq p q b ⟨r % 4, Nat.mod_lt _ (by decide)⟩ ⟨_, h⟩, BitVec.toNat_ofNat]
    exact (Nat.mod_le _ _).trans_lt (Fin.isLt _)
  · unfold wordsOf
    rw [pick_zero]
    · decide
    · intro e' h2
      rw [ranks_apply] at h2
      have h3 := congrArg BitVec.toNat h2
      have h4 := rankOf_lt (row (k0_pay2 p q b) ⟨r % 4 % 4, Nat.mod_lt _ (by decide)⟩) e'
      rw [BitVec.ofNat_toNat, BitVec.setWidth_eq, BitVec.toNat_ofNat, Nat.mod_eq_of_lt (by omega)] at h3
      omega

end Cert.KernelIdeal.Hand

end
-- ==== Proof.Take.lean ====
/-
  The reference's selection of two adapters read element by element: with every index word one of the eight adapters' numbers,
  the wrap of negative indices and the mask of indices out of range do nothing, and the result is the adapters' element there.
-/
module

public import proofs.«01_k».proof.Proof.Gen.ReferenceIdeal.Run
public import proofs.«01_k».proof.Proof.Rank
public import Idealize.ShloMosaic.Lib.ValueLayout
public import Idealize.ShloMosaic.Lib.IdealHost
public import Idealize.ShloMosaic.PureOps.Reduce

@[expose] public section

noncomputable section

namespace Cert.ReferenceIdeal.Hand

open Cert.ReferenceIdeal Cert.ReferenceIdeal.Gen
open Idealize.ShloMosaic Idealize.ShloMosaic.TcCoe Idealize.ShloMosaic.ValueIdx
open Cert.KernelIdeal.Hand (place)

section
variable {F : FTy → Type} [FloatOps F]

/-- The index of the top-2 of each row of gates, at every position, lane and rank. -/
def ids (G : FVec F S4x8 .f32) : IVec S4x2048x1024x2 32 :=
  broadcastInDim S4x2048x1024x2 ![0, 1, 2, 3] bcast_S4x1x1x2_S4x2048x1024x2_0_1_2_3
    (shapeCast S4x1x1x2 ((Host.topK S4x2 1 (FloatOps.cmpfTotal .gt) G sliceFits_S4x8_S4x2).2) shapeCasts_S4x2_S4x1x1x2)

/-- Negative indices wrapped. -/
def wrapped (I : IVec S4x2048x1024x2 32) : IVec S4x2048x1024x2 32 :=
  select (cmpi .slt I (broadcastInDim S4x2048x1024x2 ![] bcast_S_S4x2048x1024x2 (constantI S_ 32 0#32)))
    (addi I (broadcastInDim S4x2048x1024x2 ![] bcast_S_S4x2048x1024x2 (constantI S_ 32 8#32))) I

/-- The gather's start indices. -/
def starts (I : IVec S4x2048x1024x2 32) : IVec S4x2048x1024x2x1 32 :=
  shapeCast S4x2048x1024x2x1 (wrapped I) shapeCasts_S4x2048x1024x2_S4x2048x1024x2x1

/-- Which start indices are in range. -/
def inRange (I : IVec S4x2048x1024x2 32) : IVec S4x2048x1024x2x1 1 :=
  andi (cmpi .sge (starts I) (broadcastInDim S4x2048x1024x2x1 ![] bcast_S_S4x2048x1024x2x1 (constantI S_ 32 0#32)))
    (cmpi .sle (starts I) (broadcastInDim S4x2048x1024x2x1 ![0, 1, 2, 3, 4] bcast_S1x1x1x1x1_S4x2048x1024x2x1_0_1_2_3_4
      (broadcastInDim S1x1x1x1x1 ![4] bcast_S1_S1x1x1x1x1_4 (constantI S1 32 7#32))))

/-- The adapters at the indices, not a number where an index is out of range. -/
def picked (A : FVec F S4x2048x1024x8 .f32) (I : IVec S4x2048x1024x2 32) : FVec F S4x2048x1024x2 .f32 :=
  select (Host.reduce IntOp.andi (inRange I) (constantI S_ 1 1#1) reducesTo_S4x2048x1024x2x1_S4x2048x1024x2_d4 h_S_)
    (Host.gather gather_S4x2048x1024x8_S4x2048x1024x2x1_S4x2048x1024x2_n_3_012_012_3_4_1111 A (starts I))
    (broadcastInDim S4x2048x1024x2 ![] bcast_S_S4x2048x1024x2 (constant S_ .f32 0x7FC00000#32))

theorem word_not_negative (e : Fin 8) : IntOp.cmpi .slt (BitVec.ofNat 32 e.val) 0#32 = 0#1 := by revert e; decide

theorem word_in_range (e : Fin 8) : IntOp.andi (IntOp.cmpi .sge (BitVec.ofNat 32 e.val) 0#32) (IntOp.cmpi .sle (BitVec.ofNat 32 e.val) 7#32) = 1#1 := by
  revert e; decide

theorem word_clamped (e : Fin 8) : min (BitVec.ofNat 32 e.val).toInt.toNat (8 - 1) = e.val := by revert e; decide

section
variable {I : IVec S4x2048x1024x2 32} (hI : ∀ j, ∃ e : Fin 8, I j = BitVec.ofNat 32 e.val)
include hI

theorem wrapped_eq : wrapped I = I := by
  funext j
  obtain ⟨e, he⟩ := hI j
  have h : (cmpi .slt I (broadcastInDim S4x2048x1024x2 ![] bcast_S_S4x2048x1024x2 (constantI S_ 32 0#32))) j = 0#1 := by
    show IntOp.cmpi .slt (I j) 0#32 = 0#1
    rw [he]; exact word_not_negative e
  exact (congrArg (fun w => Scalar.select w _ (I j)) h).trans (if_neg (by decide))

theorem inRange_eq : inRange I = fun _ => 1#1 := by
  funext i
  obtain ⟨j, hj⟩ : ∃ j, starts I i = I j := by
    unfold starts; rw [wrapped_eq hI]; exact ⟨_, rfl⟩
  obtain ⟨e, he⟩ := hI j
  show IntOp.andi (IntOp.cmpi .sge (starts I i) 0#32) (IntOp.cmpi .sle (starts I i) 7#32) = 1#1
  rw [hj, he]; exact word_in_range e

theorem starts_apply (b : Fin 4) (s : Fin 2048) (d : Fin 1024) (k : Fin 2) (e : Fin 8) (he : I (ix4 b s d k) = BitVec.ofNat 32 e.val) :
    starts I (ix5 b s d k (0 : Fin 1)) = BitVec.ofNat 32 e.val := by
  unfold starts
  rw [wrapped_eq hI]
  refine (shapeCast_apply _ _ _ (ix4 b s d k) ?_).trans he
  rw [Shape.rowMajor_val_four, Shape.rowMajor_val_five]
  show ((b.val * 2048 + s.val) * 1024 + d.val) * 2 + k.val = (((b.val * 2048 + s.val) * 1024 + d.val) * 2 + k.val) * 1 + 0
  omega

theorem mask_apply (j : S4x2048x1024x2.Idx) :
    Host.reduce IntOp.andi (inRange I) (constantI S_ 1 1#1) reducesTo_S4x2048x1024x2x1_S4x2048x1024x2_d4 h_S_ j = 1#1 := by
  rw [Host.reduce_eq_foldl, inRange_eq hI]
  generalize List.filter _ _ = l
  show List.foldl (fun r _ => IntOp.andi r 1#1) 1#1 l = 1#1
  induction l with
  | nil => rfl
  | cons a l ih => exact ih

theorem gather_apply (A : FVec F S4x2048x1024x8 .f32) (b : Fin 4) (s : Fin 2048) (d : Fin 1024) (k : Fin 2) (e : Fin 8)
    (he : I (ix4 b s d k) = BitVec.ofNat 32 e.val) :
    Host.gather gather_S4x2048x1024x8_S4x2048x1024x2x1_S4x2048x1024x2_n_3_012_012_3_4_1111 A (starts I) (ix4 b s d k) = A (ix4 b s d e) := by
  unfold Host.gather
  refine congrArg A (funext fun a => Fin.ext ?_)
  show GatherDims.start _ _ _ a + GatherDims.batchCoord _ _ a + GatherDims.offCoord _ _ a = _
  rw [GatherDims.offCoord_eq_zero _ _ _ (by fin_cases a <;> decide), Nat.add_zero]
  by_cases h3 : a = 3
  · subst h3
    rw [GatherDims.batchCoord_eq_zero _ _ _ (by decide), Nat.add_zero]
    unfold GatherDims.start
    refine (dif_pos (List.mem_singleton.mpr rfl)).trans ?_
    refine (congrArg (fun w : BitVec 32 => min w.toInt.toNat (8 - 1)) ((congrArg (starts I) ?_).trans (starts_apply hI b s d k e he))).trans (word_clamped e)
    funext x
    fin_cases x <;> rfl
  · have hm : a ∈ ([0, 1, 2] : List (Fin 4)) := by revert h3; revert a; decide
    rw [GatherDims.start_batching _ _ _ _ hm, Nat.zero_add]
    unfold GatherDims.batchCoord
    refine (dif_pos hm).trans ?_
    fin_cases a
    · rfl
    · rfl
    · rfl
    · exact absurd rfl h3

/-- The selection read at an element. -/
theorem picked_apply (A : FVec F S4x2048x1024x8 .f32) (b : Fin 4) (s : Fin 2048) (d : Fin 1024) (k : Fin 2) (e : Fin 8)
    (he : I (ix4 b s d k) = BitVec.ofNat 32 e.val) : picked A I (ix4 b s d k) = A (ix4 b s d e) := by
  unfold picked select Scalar.select
  rw [mask_apply hI, if_pos (show (1#1 : BitVec 1) = 1 from rfl)]
  exact gather_apply hI A b s d k e he

end

end

end Cert.ReferenceIdeal.Hand

end
-- ==== Proof.RefValue.lean ====
/-
  What the reference computes over the extended reals: at batch row `b`, position `s`, lane `d` the base array's element plus
  the sum of the adapters' elements at the two best of row `b`'s gates.
-/
module

public import proofs.«01_k».proof.Proof.Take

@[expose] public section

noncomputable section

namespace Cert.ReferenceIdeal.Hand

open Cert.ReferenceIdeal Cert.ReferenceIdeal.Gen
open Idealize.ShloMosaic Idealize.ShloMosaic.TcCoe Idealize.ShloMosaic.ValueIdx
open Cert.KernelIdeal.Hand (place)

/-- Place `k` of the top two, among all eight. -/
abbrev wide (k : Fin 2) : Fin 8 := ⟨k.val, by omega⟩

/-- Lane `k` put at lane `k'` of the same row. -/
theorem along_lane (b : Fin 4) (k : Fin 8) (h : 1 < S4x8.rank) (k' : Fin (S4x8.size ⟨1, h⟩)) :
    Shape.Idx.along (s := S4x8) (ix2 b k) ⟨1, h⟩ k' = ix2 b (⟨k'.val, k'.isLt⟩ : Fin 8) := by
  funext a; fin_cases a <;> rfl

theorem ofBool_beq_one (p : Bool) : (BitVec.ofBool p == 1#1) = p := by cases p <;> rfl

/-- The index words at an element: the adapter at place `k` of row `b`. -/
theorem topK_apply (G : FVec Ideal S4x8 .f32) (b : Fin 4) (k : Fin 2) :
    (Host.topK S4x2 1 (FloatOps.cmpfTotal (F := Ideal) .gt) G sliceFits_S4x8_S4x2).2 (ix2 b k)
      = BitVec.ofNat 32 (place (fun e => (G (ix2 b e) : EReal)) (wide k)).val := by
  unfold Host.topK
  dsimp only
  refine (extractStridedSlice_apply _ _ _ _ (ix2 b (wide k)) ?_).trans ?_
  · intro a; fin_cases a
    · show b.val = 0 + b.val; omega
    · show k.val = 0 + k.val; omega
  · rw [Host.sort2, dif_pos (show 1 < S4x8.rank by decide)]
    dsimp only
    refine (dif_pos (by decide)).trans ?_
    refine (congrArg (fun i : S4x8.Idx => BitVec.ofNat 32 (i 1).val) (along_lane b (wide k) (by decide) _)).trans ?_
    refine congrArg (fun f => BitVec.ofNat 32 (sortedFrom f (wide k)).val) (funext fun j => funext fun i => ?_)
    rw [along_lane, along_lane]
    exact ofBool_beq_one _

theorem ids_apply (G : FVec Ideal S4x8 .f32) (b : Fin 4) (s : Fin 2048) (d : Fin 1024) (k : Fin 2) :
    ids G (ix4 b s d k) = BitVec.ofNat 32 (place (fun e => (G (ix2 b e) : EReal)) (wide k)).val := by
  unfold ids
  refine (broadcastInDim_apply _ _ _ _ (ix4 b (0 : Fin 1) (0 : Fin 1) k) ?_).trans ?_
  · intro a; fin_cases a <;> rfl
  refine (shapeCast_apply _ _ _ (ix2 b k) ?_).trans (topK_apply G b k)
  rw [Shape.rowMajor_val_four, Shape.rowMajor_val_two]
  show b.val * 2 + k.val = ((b.val * 1 + 0) * 1 + 0) * 2 + k.val
  omega

end Cert.ReferenceIdeal.Hand

end
-- ==== Proof.RefSum.lean ====
/-
  The reference's result at an element: the base array's element plus the adapters' elements at the two best of the row's
  gates.
-/
module

public import proofs.«01_k».proof.Proof.RefValue
public import Idealize.ShloMosaic.Lib.Claim

@[expose] public section

noncomputable section

namespace Cert.ReferenceIdeal.Hand

open Cert.ReferenceIdeal Cert.ReferenceIdeal.Gen
open Idealize.ShloMosaic Idealize.ShloMosaic.TcCoe Idealize.ShloMosaic.ValueIdx
open Cert.KernelIdeal.Hand (place)

/-- The gates: the last position's rows times the transposed weights, plus the bias on every row. -/
def gates (X : FVec Ideal S4x2048x1024 .f32) (W : FVec Ideal S8x1024 .f32) (B : FVec Ideal S8 .f32) : FVec Ideal S4x8 .f32 :=
  addf (Host.dotGeneral dot_S4x1024_S1024x8_S4x8_1_0_0_1_n_n none
      (shapeCast S4x1024 (extractStridedSlice S4x1x1024 ![0, 2047, 0] X slices_S4x2048x1024_S4x1x1024_0_2047_0) shapeCasts_S4x1x1024_S4x1024)
      (transpose S1024x8 [1, 0] W transposes_S8x1024_S1024x8_1_0))
    (broadcastInDim S4x8 ![0, 1] bcast_S1x8_S4x8_0_1 (broadcastInDim S1x8 ![1] bcast_S8_S1x8_1 B))

theorem result_apply (G : FVec Ideal S4x8 .f32) (base : FVec Ideal S4x2048x1024 .f32) (A : FVec Ideal S4x2048x1024x8 .f32)
    (b : Fin 4) (s : Fin 2048) (d : Fin 1024) :
    (addf base (Host.reduceAdd (picked A (ids G)) (constant S_ .f32 0x00000000#32) reducesTo_S4x2048x1024x2_S4x2048x1024_d3 h_S_)
        (ix3 b s d) : EReal)
      = base (ix3 b s d) + (A (ix4 b s d (place (fun e => (G (ix2 b e) : EReal)) (wide 0)))
          + A (ix4 b s d (place (fun e => (G (ix2 b e) : EReal)) (wide 1)))) := by
  have hI : ∀ j, ∃ e : Fin 8, ids G j = BitVec.ofNat 32 e.val := fun j => by
    rw [eq_ix4 j]
    exact ⟨_, ids_apply G _ _ _ _⟩
  have hr : S4x2048x1024x2.Reduces [3] S4x2048x1024 := by decide
  refine congrArg (base (ix3 b s d) + ·) ?_
  rw [hostReduceAdd_apply, Ideal.hostReduceAdd_single _ hr]
  have h0 : ((constant (F := Ideal) S_ .f32 0x00000000#32) (Shape.Idx.first h_S_) : EReal) = 0 := by
    exact Ideal.ofBits_zero_f32
  have hl : ∀ k : Fin 2, hr.lift (ix3 b s d) k = ix4 b s d k := fun k => by
    funext a; fin_cases a <;> rfl
  rw [h0, zero_add]
  refine (Fin.sum_univ_two _).trans ?_
  refine congrArg₂ (· + ·) ?_ ?_
  · rw [hl]; exact picked_apply hI A b s d 0 _ (ids_apply G b s d 0)
  · rw [hl]; exact picked_apply hI A b s d 1 _ (ids_apply G b s d 1)

theorem res_eq (m : (ℓ : Loc nD τ sig) → Buf (Elt Ideal) ℓ) (c : Dev nD) :
    Cert.ReferenceIdeal.Value.res_out0 m c
      = addf (F := Ideal) (s := S4x2048x1024) (φ := .f32) (m ((c : Thread nD τ).loc main_arg1))
          (Host.reduceAdd (picked (m ((c : Thread nD τ).loc main_arg2))
              (ids (gates (m ((c : Thread nD τ).loc main_arg0)) (m ((c : Thread nD τ).loc main_arg3)) (m ((c : Thread nD τ).loc main_arg4)))))
            (constant S_ .f32 0x00000000#32) reducesTo_S4x2048x1024x2_S4x2048x1024_d3 h_S_) := rfl

end Cert.ReferenceIdeal.Hand

end
-- ==== Proof.HostOps.lean ====
/-
  What the host lines before the call leave in the call's operands: the last position's rows, the adapters with their last
  two axes exchanged, the bias as one row.
-/
module

public import proofs.«01_k».proof.Proof.Run
public import Idealize.ShloMosaic.Lib.Claim

@[expose] public section

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] (m : (ℓ : Loc nD τ sig) → Buf (Elt F) ℓ) (c : Dev nD)

/-- The last position's rows. -/
theorem V_v1 : V m c main_v1 = shapeCast S4x1024 (extractStridedSlice S4x1x1024 ![0, 2047, 0] (m ((c : Thread nD τ).loc main_arg0))
    slices_S4x2048x1024_S4x1x1024_0_2047_0) shapeCasts_S4x1x1024_S4x1024 := by
  unfold_abbrev_sides
  after_results
  rfl

/-- The adapters, lanes last. -/
theorem V_v2 : V m c main_v2 = transpose S4x2048x8x1024 [0, 1, 3, 2] (m ((c : Thread nD τ).loc main_arg2))
    transposes_S4x2048x1024x8_S4x2048x8x1024_0_1_3_2 := by
  unfold_abbrev_sides
  after_results

/-- The bias as one row. -/
theorem V_v3 : V m c main_v3 = shapeCast S1x8 (m ((c : Thread nD τ).loc main_arg4)) shapeCasts_S8_S1x8 := by
  unfold_abbrev_sides
  after_results
  rfl

end Cert.KernelIdeal.Hand

end
-- ==== Proof.Value.lean ====
/-
  What the kernel's result array holds at the end, over the extended reals: at batch row `b`, position `s`, lane `d` the
  base array's element plus the sum of the adapters' elements at the two experts that the index words of row `b` name.
-/
module

public import proofs.«01_k».proof.Proof.Run
public import proofs.«01_k».proof.Proof.Index
public import proofs.«01_k».proof.Proof.HostOps
public import Idealize.ShloMosaic.Lib.Pipeline.ValueKit
public import Idealize.ShloMosaic.Lib.ValueLayout

@[expose] public section

noncomputable section

namespace Cert.KernelIdeal.Hand

open Idealize.ShloMosaic hiding ix1 ix2 ix3 ix4
open Idealize.ShloMosaic.TcCoe Idealize.ShloMosaic.ValueIdx
open Idealize.SL Idealize.SL.Sem
open Cert.KernelIdeal Cert.KernelIdeal.Gen

section
variable {F : FTy → Type} [FloatOps F]

/-- A block that landed in a half of a slot is what the body reads there. -/
theorem landed_cast (s k : ℕ) (hs : s < 3) (hk : k < 2) (X : S1024x1024.Idx → Elt F .f32) :
    shapeCast S1024x1024 (landed s k hs hk X) shapeCasts_S1x1x1024x1024_S1024x1024 = X :=
  (Memref.read_squeeze_slice slots _ _ squeezes_S1x1x1024x1024_S1024x1024 _ _).symm.trans (View.read_writes_whole _ _ X)

/-- The source block of adapter `e`, row `b`, positions from `r` on, read at an element. -/
theorem source_apply (c : Dev nD) (L : BufOf (F := F) c lora) (b r e : ℕ) (hb : b < 4) (hr : r ≤ 1024) (he : e < 8)
    (i j : Fin 1024) :
    (source b r e hb hr he).view.read (Elt F) L (ix2 i j)
      = L (ix4 (⟨b, hb⟩ : Fin 4) (⟨r + i.val, by omega⟩ : Fin 2048) (⟨e, he⟩ : Fin 8) j) := by
  refine (congrFun (Memref.read_squeeze_slice lora _ _ squeezes_S1x1024x1x1024_S1024x1024
    (show S1x1024x1x1024.ShapeCasts S1024x1024 by decide) L) _).trans ?_
  refine (shapeCast_apply _ _ _ (ix4 (0 : Fin 1) i (0 : Fin 1) j) ?_).trans ?_
  · rw [Shape.rowMajor_val_four, Shape.rowMajor_val_two]
    show ((0 * 1024 + i.val) * 1 + 0) * 1024 + j.val = i.val * 1024 + j.val
    omega
  · refine congrArg L (funext fun a => Fin.ext ?_)
    fin_cases a
    · show b + 1 * 0 = b; omega
    · show r + 1 * i.val = r + i.val; omega
    · show e + 1 * 0 = e; omega
    · show 0 + 1 * j.val = j.val; omega
end

/-- The block stored at step `t`, read at an element. -/
theorem stored_apply (c : Dev nD) (L : S4x2048x8x1024.Idx → EReal) (w : ℕ → ℕ → BitVec 32) (hw : ∀ b k, (w b k).toNat < 8) (t : ℕ)
    (x : FVec Ideal S1x1024x1024 .f32) (i j : Fin 1024) :
    (stored (F := Ideal) c L w hw t x (ix3 (0 : Fin 1) i j) : EReal)
      = x (ix3 (0 : Fin 1) i j) + (L (ix4 (⟨t / 2 % 4, Nat.mod_lt _ (by decide)⟩ : Fin 4) (⟨t % 2 * 1024 + i.val, by omega⟩ : Fin 2048) (⟨_, hw (t / 2 % 4) 0⟩ : Fin 8) j)
        + L (ix4 (⟨t / 2 % 4, Nat.mod_lt _ (by decide)⟩ : Fin 4) (⟨t % 2 * 1024 + i.val, by omega⟩ : Fin 2048) (⟨_, hw (t / 2 % 4) 1⟩ : Fin 8) j)) := by
  unfold stored k0_pay1 k0_pay21 landedStep
  refine (shapeCast_ab_1ab_apply _ _ _ i j).trans ?_
  rw [landed_cast, landed_cast]
  refine congrArg₂ (· + ·) (shapeCast_1ab_ab_apply _ _ i j) ?_
  exact congrArg₂ (· + ·) (source_apply (F := Ideal) c L (t / 2 % 4) (t % 2 * 1024) _ _ (by omega) (hw _ 0) i j)
    (source_apply (F := Ideal) c L (t / 2 % 4) (t % 2 * 1024) _ _ (by omega) (hw _ 1) i j)

/-- Where the base's and the result's block of each point lies. -/
theorem idx_facts : ∀ t : Fin cfg0.N, win0_3.index t = ![t.val / 2, t.val % 2, 0] ∧ win0_4.index t = ![t.val / 2, t.val % 2, 0] := by
  decide +kernel

section
variable (m : (ℓ : Loc nD τ sig) → Buf (Elt Ideal) ℓ) (c : Dev nD)

/-- The base array and the adapters, as launched. -/
abbrev baseArr : S4x2048x1024.Idx → EReal := m ((c : Thread nD τ).loc main_arg1)
abbrev adapters : S4x2048x1024x8.Idx → EReal := m ((c : Thread nD τ).loc main_arg2)

/-- The adapters as the transfers read them. -/
theorem lora_eq (b : Fin 4) (s : Fin 2048) (e : Fin 8) (d : Fin 1024) :
    (V m c main_v2 (ix4 b s e d) : EReal) = adapters m c (ix4 b s d e) := by
  rw [V_v2]
  refine transpose_apply _ _ _ _ _ fun a => ?_
  fin_cases a <;> rfl

/-- The base block of a point. -/
theorem base_eq (t : Fin cfg0.N) (i j : Fin 1024) :
    (iblk m c 3 t (ix3 (0 : Fin 1) i j) : EReal) = baseArr m c
      (ix3 (⟨t.val / 2, by have := t.isLt.trans_eq N_0; omega⟩ : Fin 4) (⟨t.val % 2 * 1024 + i.val, by omega⟩ : Fin 2048) j) := by
  have h8 := t.isLt.trans_eq N_0
  have h := (idx_facts t).1
  blk_ext [iblk, V, h]

variable (hw : ∀ c b k, (wordsAll m c b k).toNat < 8)

/-- The result: the base plus the sum of the two selected adapters. -/
def combined (c : Dev nD) : S4x2048x1024.Idx → EReal := fun i =>
  baseArr m c i + (adapters m c (ix4 (i 0 : Fin 4) (i 1 : Fin 2048) (i 2 : Fin 1024) (⟨_, hw c (i 0).val 0⟩ : Fin 8))
    + adapters m c (ix4 (i 0 : Fin 4) (i 1 : Fin 2048) (i 2 : Fin 1024) (⟨_, hw c (i 0).val 1⟩ : Fin 8)))

/-- An index of a block is row `i`, lane `j` of it. -/
theorem block_index (y : S1x1024x1024.Idx) : ∃ i j : Fin 1024, y = ix3 (0 : Fin 1) i j :=
  ⟨y 1, y 2, (ValueIdx.eq_ix3 y).trans (congrArg (fun u : Fin 1 => ix3 u (y 1 : Fin 1024) (y 2 : Fin 1024)) (Fin.eq_zero _))⟩

/-- The result's array at the end. -/
theorem final_eq (c : Dev nD) : (dats m hw 0 c).arrAt 4 (Fin.last cfg0.N) = combined m hw c := by
  refine (dats m hw 0 c).arrAt_eq_of_covers 4 _ (by decide +kernel) fun t hf y => ?_
  have h8 := t.isLt.trans_eq N_0
  have h := (idx_facts t).2
  blk_simp
  obtain ⟨i, j, rfl⟩ := block_index y
  have e : (win0_4.blk t).view.emb (ix3 (0 : Fin 1) i j)
      = (ix3 (⟨t.val / 2, by omega⟩ : Fin 4) (⟨t.val % 2 * 1024 + i.val, by omega⟩ : Fin 2048) j : S4x2048x1024.Idx) := by
    blk_ext [h]
  rw [e, after4]
  unfold outBlock
  refine (stored_apply c (V m c main_v2) (wordsAll m c) (hw c) t.val (iblk m c 3 t) i j).trans ?_
  have hb : t.val / 2 % 4 = t.val / 2 := Nat.mod_eq_of_lt (by omega)
  unfold combined
  refine congrArg₂ (· + ·) (base_eq m c t i j) ?_
  refine congrArg₂ (· + ·) ((lora_eq m c _ _ _ _).trans (congrArg (adapters m c) ?_)) ((lora_eq m c _ _ _ _).trans (congrArg (adapters m c) ?_))
  all_goals
    funext a
    fin_cases a
    · exact Fin.ext hb
    · rfl
    · rfl
    · exact Fin.ext (congrArg (fun b => (wordsAll m c b _).toNat) hb)
end

end Cert.KernelIdeal.Hand

end
-- ==== Proof.Gates.lean ====
/-
  The kernel's gates and the reference's gates are one table: both sum over the 1024 lanes the last position's element times
  the weight's, and add the bias.
-/
module

public import proofs.«01_k».proof.Proof.RefSum
public import proofs.«01_k».proof.Proof.Value
public import Idealize.ShloMosaic.Lib.Pointwise

@[expose] public section

noncomputable section

namespace Cert.KernelIdeal.Hand

open Idealize.ShloMosaic hiding ix1 ix2 ix3 ix4
open Idealize.ShloMosaic.TcCoe Idealize.ShloMosaic.ValueIdx
open Idealize.SL Idealize.SL.Sem
open Cert.KernelIdeal Cert.KernelIdeal.Gen

/-- The kernel's product with the weights' rows is the host's product with the transposed weights. -/
theorem product_eq (x : FVec Ideal S4x1024 .f32) (W : FVec Ideal S8x1024 .f32) (r : Fin 4) (e : Fin 8) :
    (matmul dot_S4x1024_S8x1024_S4x8_1_1_0_0_n_n (some .fp32) x W (constant S4x8 .f32 0x00000000#32) (ix2 r e) : EReal)
      = Host.dotGeneral Cert.ReferenceIdeal.dot_S4x1024_S1024x8_S4x8_1_0_0_1_n_n none x
          (transpose Cert.ReferenceIdeal.S1024x8 [1, 0] W Cert.ReferenceIdeal.Gen.transposes_S8x1024_S1024x8_1_0) (ix2 r e) := by
  simp only [pointwise]

/-- The gates, row by row and adapter by adapter. -/
theorem gates_eq (x : FVec Ideal S4x1024 .f32) (W : FVec Ideal S8x1024 .f32) (B : FVec Ideal S8 .f32) :
    k0_pay2 x W (shapeCast S1x8 B shapeCasts_S8_S1x8)
      = addf (Host.dotGeneral Cert.ReferenceIdeal.dot_S4x1024_S1024x8_S4x8_1_0_0_1_n_n none x
          (transpose Cert.ReferenceIdeal.S1024x8 [1, 0] W Cert.ReferenceIdeal.Gen.transposes_S8x1024_S1024x8_1_0))
        (broadcastInDim S4x8 ![0, 1] Cert.ReferenceIdeal.Gen.bcast_S1x8_S4x8_0_1 (broadcastInDim S1x8 ![1] Cert.ReferenceIdeal.Gen.bcast_S8_S1x8_1 B)) := by
  funext i
  obtain ⟨r, e, rfl⟩ : ∃ (r : Fin 4) (e : Fin 8), i = ix2 r e := ⟨i 0, i 1, ValueIdx.eq_ix2 i⟩
  refine congrArg₂ (· + ·) ?_ ?_
  · rw [shapeCast_self]
    exact product_eq x W r e
  · rw [shapeCast_self]
    refine ((broadcastTo_apply _ _ _ (ix2 (0 : Fin 1) e) ?_).trans (shapeCast_apply _ _ _ (ix1 e) ?_)).trans
      ((broadcastInDim_apply _ _ _ _ (ix2 (0 : Fin 1) e) ?_).trans (broadcastInDim_apply _ _ _ _ (ix1 e) ?_)).symm
    · intro a; fin_cases a <;> rfl
    · rw [Shape.rowMajor_val_two, Shape.rowMajor_val_one]
      show e.val = 0 * 8 + e.val
      omega
    · intro a; fin_cases a <;> rfl
    · intro a; fin_cases a; rfl

section
variable (m : (ℓ : Loc nD τ sig) → Buf (Elt Ideal) ℓ) (c : Dev nD)

/-- The first operand's one block is the whole array; so are the next two's. -/
theorem block0 : iblk m c 0 t0_0 = V m c main_v1 := by
  have h : win0_0.index t0_0 = ![0, 0] := by decide +kernel
  funext i
  blk_ext [iblk, V, h]

theorem block1 : iblk m c 1 t0_0 = m ((c : Thread nD τ).loc main_arg3) := by
  have h : win0_1.index t0_0 = ![0, 0] := by decide +kernel
  funext i
  blk_ext [iblk, V, h]

theorem block2 : iblk m c 2 t0_0 = V m c main_v3 := by
  have h : win0_2.index t0_0 = ![0, 0] := by decide +kernel
  funext i
  blk_ext [iblk, V, h]

/-- The kernel's gates are the reference's, of the same arguments. -/
theorem pay2_eq : k0_pay2 (iblk m c 0 t0_0) (iblk m c 1 t0_0) (iblk m c 2 t0_0)
    = Cert.ReferenceIdeal.Hand.gates (m ((c : Thread nD τ).loc main_arg0)) (m ((c : Thread nD τ).loc main_arg3)) (m ((c : Thread nD τ).loc main_arg4)) := by
  rw [block0, block1, block2, V_v1, V_v3]
  exact gates_eq _ _ _

/-- An index word is the place of the row's gates it stands for. -/
theorem word_eq (r : Fin 4) (k : Fin 8) : (wordsAll m c r.val k.val).toNat
    = (place (row (Cert.ReferenceIdeal.Hand.gates (m ((c : Thread nD τ).loc main_arg0)) (m ((c : Thread nD τ).loc main_arg3)) (m ((c : Thread nD τ).loc main_arg4))) r) k).val := by
  unfold wordsAll
  rw [wordsOf_eq, pay2_eq, BitVec.toNat_ofNat]
  exact Nat.mod_eq_of_lt (by have := (place (row (Cert.ReferenceIdeal.Hand.gates (m ((c : Thread nD τ).loc main_arg0)) (m ((c : Thread nD τ).loc main_arg3)) (m ((c : Thread nD τ).loc main_arg4))) r) k).isLt; omega)

/-- The kernel's result is the reference's, of the same arguments. -/
theorem combined_eq (hw : ∀ c b k, (wordsAll m c b k).toNat < 8)
    (m' : (ℓ : Loc Cert.ReferenceIdeal.nD Cert.ReferenceIdeal.τ Cert.ReferenceIdeal.sig) → Buf (Elt Ideal) ℓ)
    (h0 : m' ((c : Thread nD τ).loc Cert.ReferenceIdeal.main_arg0) = m ((c : Thread nD τ).loc main_arg0))
    (h1 : m' ((c : Thread nD τ).loc Cert.ReferenceIdeal.main_arg1) = m ((c : Thread nD τ).loc main_arg1))
    (h2 : m' ((c : Thread nD τ).loc Cert.ReferenceIdeal.main_arg2) = m ((c : Thread nD τ).loc main_arg2))
    (h3 : m' ((c : Thread nD τ).loc Cert.ReferenceIdeal.main_arg3) = m ((c : Thread nD τ).loc main_arg3))
    (h4 : m' ((c : Thread nD τ).loc Cert.ReferenceIdeal.main_arg4) = m ((c : Thread nD τ).loc main_arg4)) :
    combined m hw c = Cert.ReferenceIdeal.Value.res_out0 m' c := by
  rw [Cert.ReferenceIdeal.Hand.res_eq, h0, h1, h2, h3, h4]
  funext i
  obtain ⟨b, s, d, rfl⟩ : ∃ (b : Fin 4) (s : Fin 2048) (d : Fin 1024), i = ix3 b s d := ⟨i 0, i 1, i 2, ValueIdx.eq_ix3 i⟩
  refine Eq.trans ?_ (Cert.ReferenceIdeal.Hand.result_apply _ _ _ b s d).symm
  unfold combined
  refine congrArg₂ (· + ·) rfl (congrArg₂ (· + ·) ?_ ?_)
  · exact congrArg (fun e => adapters m c (ix4 b s d e)) (Fin.ext (word_eq m c b 0))
  · exact congrArg (fun e => adapters m c (ix4 b s d e)) (Fin.ext (word_eq m c b 1))
end

end Cert.KernelIdeal.Hand

end
-- ==== Proof.lean ====
/-
  The proof of `Cert.Claim`: both programs run without a fault, leave their arguments as they were and every semaphore at
  zero, and over the extended reals their results are equal.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Index
public import proofs.«01_k».proof.Proof.Gates
public import Idealize.ShloMosaic.Adequacy
public import Idealize.ShloMosaic.Init

@[expose] public section

noncomputable section

namespace Cert.Proof

open Idealize.ShloMosaic Idealize.SL.Sem

/-- Every index word the kernel writes names one of the eight experts. -/
theorem words_lt (m : (ℓ : Loc Cert.KernelIdeal.nD Cert.KernelIdeal.τ Cert.KernelIdeal.sig) → Buf (Elt Ideal) ℓ)
    (c : Dev Cert.KernelIdeal.nD) (b k : ℕ) :
    (Cert.KernelIdeal.Hand.wordsAll m c b k).toNat < 8 := Cert.KernelIdeal.Hand.wordsOf_lt _ _ _ b k

/-- The kernel runs, its arguments unchanged, every semaphore back at zero. -/
theorem frame_k : Cert.quiescent_KernelIdeal := fun m ρ _ =>
  (θ_run _ _ _).mono (fun _ h => ⟨fun c => (h.1 c).2, h.2⟩) (Cert.KernelIdeal.Hand.run_result m ρ (words_lt m))

/-- The reference runs, its arguments unchanged; it has no semaphore. -/
theorem frame_r : Cert.quiescent_ReferenceIdeal := fun m ρ _ =>
  (θ_run _ _ _).mono (fun r h => ⟨fun c => (h c).2, sem_eq_zero_of_no_sems (by decide) r.2⟩)
    (Cert.ReferenceIdeal.Value.run m ρ)

/-- The kernel's result array is what the reference computes of the same arguments. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (agree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.KernelIdeal.Hand.dats m (words_lt m) 0 c).arrAt 4 (Fin.last Cert.KernelIdeal.cfg0.N) = Cert.ReferenceIdeal.Value.res_out0 m' c :=
  (Cert.KernelIdeal.Hand.final_eq m (words_lt m) c).trans
    (Cert.KernelIdeal.Hand.combined_eq m c (words_lt m) m' agree.1 agree.2.1 agree.2.2.1 agree.2.2.2.1 agree.2.2.2.2)

/-- From the same arguments the kernel and the reference end with the same result. -/
theorem algebraic : Cert.algebraic_KernelIdeal_ReferenceIdeal := fun m ρ m' ρ' _ agree =>
  ⟨fun c => Cert.ReferenceIdeal.Value.res_out0 m' c,
    (θ_run _ _ _).mono (fun _ h c => ⟨(h.1 c).1.trans (result m m' c (agree c)), (h.1 c).2⟩)
      (Cert.KernelIdeal.Hand.run_result m ρ (words_lt m)),
    Cert.ReferenceIdeal.Value.run m' ρ'⟩

theorem claim : Cert.Claim :=
  ⟨Cert.KernelIdeal.Gen.facts, Cert.ReferenceIdeal.Gen.facts, frame_k, frame_r, algebraic⟩

end Cert.Proof

end
